-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S1024x200x3 : Shape := ⟨3, ![1024, 200, 3]⟩
abbrev S1024x200x2 : Shape := ⟨3, ![1024, 200, 2]⟩
abbrev S100001x16 : Shape := ⟨2, ![100001, 16]⟩
abbrev S9x16 : Shape := ⟨2, ![9, 16]⟩
abbrev S4x16 : Shape := ⟨2, ![4, 16]⟩
abbrev S2x16 : Shape := ⟨2, ![2, 16]⟩
abbrev S16 : Shape := ⟨1, ![16]⟩
abbrev S64x128 : Shape := ⟨2, ![64, 128]⟩
abbrev S128 : Shape := ⟨1, ![128]⟩
abbrev S_ : Shape := ⟨0, ![]⟩
abbrev S16x128 : Shape := ⟨2, ![16, 128]⟩

class Facts : Prop where
  bcast_S_S1024x200x3 : S_.BroadcastsInDim S1024x200x3 (![] : Fin 0 → Fin S1024x200x3.rank)
  reducesTo_S1024x200x3_S_d0_1_2 : S1024x200x3.ReducesTo [0, 1, 2] S_
  h_S_ : 0 < S_.numel
  bcast_S_S1024x200x2 : S_.BroadcastsInDim S1024x200x2 (![] : Fin 0 → Fin S1024x200x2.rank)
  reducesTo_S1024x200x2_S_d0_1_2 : S1024x200x2.ReducesTo [0, 1, 2] S_
  bcast_S_S16 : S_.BroadcastsInDim S16 (![] : Fin 0 → Fin S16.rank)
  reducesTo_S16_S_d0 : S16.ReducesTo [0] S_
  slices_S64x128_S16x128_48_0 : S64x128.Slices ![48, 0] S16x128
  bcast_S_S16x128 : S_.BroadcastsInDim S16x128 (![] : Fin 0 → Fin S16x128.rank)
  reducesTo_S16x128_S_d0_1 : S16x128.ReducesTo [0, 1] S_

variable [Facts]

def fn_part1 {F : FTy → Type} [FloatOps F] (main_v15 : IVec S_ 1) (main_v16 : FVec F S16x128 .f32) : IVec S_ 1 :=
  let main_v17 : FVec F S16x128 .f32 := Host.absf main_v16
  let main_cst_5 : FVec F S_ .f32 := constant S_ .f32 0x7F800000#32
  let main_v18 : FVec F S16x128 .f32 := broadcastInDim S16x128 ![] bcast_S_S16x128 main_cst_5
  let main_v19 : IVec S16x128 1 := cmpf .olt main_v17 main_v18
  let main_c_6 : IVec S_ 1 := constantI S_ 1 1#1
  let main_v20 : IVec S_ 1 := (fun x v => Host.reduce IntOp.andi x v reducesTo_S16x128_S_d0_1 h_S_) main_v19 main_c_6
  let main_v21 : IVec S_ 1 := andi main_v15 main_v20
  main_v21

def fn {F : FTy → Type} [FloatOps F] (main_arg0 : IVec S1024x200x3 32) (main_arg1 : FVec F S1024x200x2 .f32) (main_arg2 : FVec F S100001x16 .f32) (main_arg3 : FVec F S9x16 .f32) (main_arg4 : FVec F S4x16 .f32) (main_arg5 : FVec F S2x16 .f32) (main_arg6 : FVec F S16 .f32) (main_arg7 : FVec F S16 .f32) (main_arg8 : FVec F S16 .f32) (main_arg9 : FVec F S64x128 .f32) (main_arg10 : FVec F S128 .f32) : IVec S_ 1 :=
  let main_c : IVec S_ 32 := constantI S_ 32 0#32
  let main_v0 : IVec S1024x200x3 32 := broadcastInDim S1024x200x3 ![] bcast_S_S1024x200x3 main_c
  let main_v1 : IVec S1024x200x3 1 := cmpi .sge main_arg0 main_v0
  let main_c_0 : IVec S_ 32 := constantI S_ 32 4#32
  let main_v2 : IVec S1024x200x3 32 := broadcastInDim S1024x200x3 ![] bcast_S_S1024x200x3 main_c_0
  let main_v3 : IVec S1024x200x3 1 := cmpi .slt main_arg0 main_v2
  let main_v4 : IVec S1024x200x3 1 := andi main_v1 main_v3
  let main_c_1 : IVec S_ 1 := constantI S_ 1 1#1
  let main_v5 : IVec S_ 1 := (fun x v => Host.reduce IntOp.andi x v reducesTo_S1024x200x3_S_d0_1_2 h_S_) main_v4 main_c_1
  let main_v6 : FVec F S1024x200x2 .f32 := Host.absf main_arg1
  let main_cst : FVec F S_ .f32 := constant S_ .f32 0x7F800000#32
  let main_v7 : FVec F S1024x200x2 .f32 := broadcastInDim S1024x200x2 ![] bcast_S_S1024x200x2 main_cst
  let main_v8 : IVec S1024x200x2 1 := cmpf .olt main_v6 main_v7
  let main_c_2 : IVec S_ 1 := constantI S_ 1 1#1
  let main_v9 : IVec S_ 1 := (fun x v => Host.reduce IntOp.andi x v reducesTo_S1024x200x2_S_d0_1_2 h_S_) main_v8 main_c_2
  let main_v10 : IVec S_ 1 := andi main_v5 main_v9
  let main_v11 : FVec F S16 .f32 := Host.absf main_arg8
  let main_cst_3 : FVec F S_ .f32 := constant S_ .f32 0x7F800000#32
  let main_v12 : FVec F S16 .f32 := broadcastInDim S16 ![] bcast_S_S16 main_cst_3
  let main_v13 : IVec S16 1 := cmpf .olt main_v11 main_v12
  let main_c_4 : IVec S_ 1 := constantI S_ 1 1#1
  let main_v14 : IVec S_ 1 := (fun x v => Host.reduce IntOp.andi x v reducesTo_S16_S_d0 h_S_) main_v13 main_c_4
  let main_v15 : IVec S_ 1 := andi main_v10 main_v14
  let main_v16 : FVec F S16x128 .f32 := (extractStridedSlice S16x128 ![48, 0] · slices_S64x128_S16x128_48_0) main_arg9
  fn_part1 (F := F) main_v15 main_v16
-- ==== Kernel.lean ====
abbrev S1024x200x3 : Shape := ⟨3, ![1024, 200, 3]⟩
abbrev S1024x200x2 : Shape := ⟨3, ![1024, 200, 2]⟩
abbrev S100001x16 : Shape := ⟨2, ![100001, 16]⟩
abbrev S9x16 : Shape := ⟨2, ![9, 16]⟩
abbrev S4x16 : Shape := ⟨2, ![4, 16]⟩
abbrev S2x16 : Shape := ⟨2, ![2, 16]⟩
abbrev S16 : Shape := ⟨1, ![16]⟩
abbrev S64x128 : Shape := ⟨2, ![64, 128]⟩
abbrev S128 : Shape := ⟨1, ![128]⟩
abbrev S204800x3 : Shape := ⟨2, ![204800, 3]⟩
abbrev S204800x2 : Shape := ⟨2, ![204800, 2]⟩
abbrev S204800x5 : Shape := ⟨2, ![204800, 5]⟩
abbrev S1x16 : Shape := ⟨2, ![1, 16]⟩
abbrev S1x128 : Shape := ⟨2, ![1, 128]⟩
abbrev S204800x128 : Shape := ⟨2, ![204800, 128]⟩
abbrev S10240x5 : Shape := ⟨2, ![10240, 5]⟩
abbrev S8x16 : Shape := ⟨2, ![8, 16]⟩
abbrev S4x10240x128 : Shape := ⟨3, ![4, 10240, 128]⟩
abbrev S4 : Shape := ⟨1, ![4]⟩
abbrev S1 : Shape := ⟨1, ![1]⟩
abbrev S_ : Shape := ⟨0, ![]⟩
abbrev S10240x128 : Shape := ⟨2, ![10240, 128]⟩
abbrev S1x10240x128 : Shape := ⟨3, ![1, 10240, 128]⟩
abbrev S16x128 : Shape := ⟨2, ![16, 128]⟩
abbrev S4x128 : Shape := ⟨2, ![4, 128]⟩
abbrev S28x128 : Shape := ⟨2, ![28, 128]⟩
abbrev S16x16 : Shape := ⟨2, ![16, 16]⟩
abbrev S3x12 : Shape := ⟨2, ![3, 12]⟩
abbrev S3x16 : Shape := ⟨2, ![3, 16]⟩
abbrev S3x28 : Shape := ⟨2, ![3, 28]⟩
abbrev S2x12 : Shape := ⟨2, ![2, 12]⟩
abbrev S2x28 : Shape := ⟨2, ![2, 28]⟩
abbrev S5x28 : Shape := ⟨2, ![5, 28]⟩
abbrev S1x12 : Shape := ⟨2, ![1, 12]⟩
abbrev S1x28 : Shape := ⟨2, ![1, 28]⟩
abbrev S28x28 : Shape := ⟨2, ![28, 28]⟩
abbrev S10240x28 : Shape := ⟨2, ![10240, 28]⟩
abbrev S1024x200x128 : Shape := ⟨3, ![1024, 200, 128]⟩

abbrev nBuf : Space → Nat
  | .hbm => 21
  | .vmem => 12
  | .smem => 0
  | _ => 0

abbrev bufTy : (tb : Table) → Fin (tcTables nBuf tb) → BufTy
  | .hbm, ⟨0, _⟩ => ⟨S1024x200x3, .i32⟩
  | .hbm, ⟨1, _⟩ => ⟨S1024x200x2, .f32⟩
  | .hbm, ⟨2, _⟩ => ⟨S100001x16, .f32⟩
  | .hbm, ⟨3, _⟩ => ⟨S9x16, .f32⟩
  | .hbm, ⟨4, _⟩ => ⟨S4x16, .f32⟩
  | .hbm, ⟨5, _⟩ => ⟨S2x16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S64x128, .f32⟩
  | .hbm, ⟨10, _⟩ => ⟨S128, .f32⟩
  | .hbm, ⟨11, _⟩ => ⟨S204800x3, .i32⟩
  | .hbm, ⟨12, _⟩ => ⟨S204800x3, .f32⟩
  | .hbm, ⟨13, _⟩ => ⟨S204800x2, .f32⟩
  | .hbm, ⟨14, _⟩ => ⟨S204800x5, .f32⟩
  | .hbm, ⟨15, _⟩ => ⟨S1x16, .f32⟩
  | .hbm, ⟨16, _⟩ => ⟨S1x16, .f32⟩
  | .hbm, ⟨17, _⟩ => ⟨S1x16, .f32⟩
  | .hbm, ⟨18, _⟩ => ⟨S1x128, .f32⟩
  | .hbm, ⟨19, _⟩ => ⟨S204800x128, .f32⟩
  | .hbm, ⟨20, _⟩ => ⟨S1024x200x128, .f32⟩
  | .local _ .vmem, ⟨0, _⟩ => ⟨S10240x5, .f32⟩
  | .local _ .vmem, ⟨1, _⟩ => ⟨S10240x5, .f32⟩
  | .local _ .vmem, ⟨2, _⟩ => ⟨S8x16, .f32⟩
  | .local _ .vmem, ⟨3, _⟩ => ⟨S8x16, .f32⟩
  | .local _ .vmem, ⟨4, _⟩ => ⟨S4x16, .f32⟩
  | .local _ .vmem, ⟨5, _⟩ => ⟨S2x16, .f32⟩
  | .local _ .vmem, ⟨6, _⟩ => ⟨S1x16, .f32⟩
  | .local _ .vmem, ⟨7, _⟩ => ⟨S1x16, .f32⟩
  | .local _ .vmem, ⟨8, _⟩ => ⟨S1x16, .f32⟩
  | .local _ .vmem, ⟨9, _⟩ => ⟨S64x128, .f32⟩
  | .local _ .vmem, ⟨10, _⟩ => ⟨S1x128, .f32⟩
  | .local _ .vmem, ⟨11, _⟩ => ⟨S4x10240x128, .f32⟩
  | _, _ => ⟨S1024x200x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c4_i32_0 : BitVec 32 := 4#32
  let v1 : BitVec 1 := Scalar.cmpi .sge arg0 c4_i32_0
  let v2 : BitVec 32 := Scalar.extui v1
  let c0_i32 : BitVec 32 := 0#32
  let v3 : BitVec 1 := Scalar.cmpi .ne v2 c0_i32
  v3

def k0_off1 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off2 (i : grid0.Coords) : Fin 2 → Nat :=
  let arg0 : BitVec 32 := BitVec.ofNat 32 (i 0).val
  let c4_i32_66 : BitVec 32 := 4#32
  let v137 : BitVec 32 := Scalar.subi arg0 c4_i32_66
  let c10240_i32_67 : BitVec 32 := 10240#32
  let v138 : BitVec 32 := Scalar.muli v137 c10240_i32_67
  let c0_i32_68 : BitVec 32 := 0#32
  ![v138.toNat, 0]
def k0_off3 (i : grid0.Coords) : Fin 3 → Nat :=
  let arg0 : BitVec 32 := BitVec.ofNat 32 (i 0).val
  let c4_i32 : BitVec 32 := 4#32
  let v0 : BitVec 32 := Scalar.remsi arg0 c4_i32
  let c0_i32_69 : BitVec 32 := 0#32
  let c0_i32_70 : BitVec 32 := 0#32
  ![v0.toNat, 0, 0]
def k0_off4 (i : grid0.Coords) : Fin 3 → Nat :=
  let arg0 : BitVec 32 := BitVec.ofNat 32 (i 0).val
  let c4_i32 : BitVec 32 := 4#32
  let v0 : BitVec 32 := Scalar.remsi arg0 c4_i32
  let v124 : Index := Scalar.indexCast v0
  let c0_60 : Index := 0#32
  let c0_61 : Index := 0#32
  ![v124.toNat, 0, 0]
def k0_off5 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off6 (i : grid0.Coords) : Fin 2 → Nat :=
  let arg0 : BitVec 32 := BitVec.ofNat 32 (i 0).val
  let c10240_i32 : BitVec 32 := 10240#32
  let v128 : BitVec 32 := Scalar.muli arg0 c10240_i32
  let c0_i32_62 : BitVec 32 := 0#32
  ![v128.toNat, 0]
def k0_off7 (i : grid0.Coords) : Fin 3 → Nat :=
  let arg0 : BitVec 32 := BitVec.ofNat 32 (i 0).val
  let c4_i32 : BitVec 32 := 4#32
  let v0 : BitVec 32 := Scalar.remsi arg0 c4_i32
  let c0_i32_63 : BitVec 32 := 0#32
  let c0_i32_64 : BitVec 32 := 0#32
  ![v0.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10240x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1024x200x3 : Shape := ⟨3, ![1024, 200, 3]⟩
abbrev S1024x200x2 : Shape := ⟨3, ![1024, 200, 2]⟩
abbrev S100001x16 : Shape := ⟨2, ![100001, 16]⟩
abbrev S9x16 : Shape := ⟨2, ![9, 16]⟩
abbrev S4x16 : Shape := ⟨2, ![4, 16]⟩
abbrev S2x16 : Shape := ⟨2, ![2, 16]⟩
abbrev S16 : Shape := ⟨1, ![16]⟩
abbrev S64x128 : Shape := ⟨2, ![64, 128]⟩
abbrev S128 : Shape := ⟨1, ![128]⟩
abbrev S1024x200x1 : Shape := ⟨3, ![1024, 200, 1]⟩
abbrev S1024x200 : Shape := ⟨2, ![1024, 200]⟩
abbrev S_ : Shape := ⟨0, ![]⟩
abbrev S1 : Shape := ⟨1, ![1]⟩
abbrev S1x1x1 : Shape := ⟨3, ![1, 1, 1]⟩
abbrev S1024x200x16 : Shape := ⟨3, ![1024, 200, 16]⟩
abbrev S1x1x16 : Shape := ⟨3, ![1, 1, 16]⟩
abbrev S1024x200x64 : Shape := ⟨3, ![1024, 200, 64]⟩
abbrev S1024x200x128 : Shape := ⟨3, ![1024, 200, 128]⟩
abbrev S1x1x128 : Shape := ⟨3, ![1, 1, 128]⟩

abbrev nBuf : Space → Nat
  | .hbm => 124
  | .vmem => 0
  | .smem => 0
  | _ => 0

abbrev bufTy : (tb : Table) → Fin (tcTables nBuf tb) → BufTy
  | .hbm, ⟨0, _⟩ => ⟨S1024x200x3, .i32⟩
  | .hbm, ⟨1, _⟩ => ⟨S1024x200x2, .f32⟩
  | .hbm, ⟨2, _⟩ => ⟨S100001x16, .f32⟩
  | .hbm, ⟨3, _⟩ => ⟨S9x16, .f32⟩
  | .hbm, ⟨4, _⟩ => ⟨S4x16, .f32⟩
  | .hbm, ⟨5, _⟩ => ⟨S2x16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S64x128, .f32⟩
  | .hbm, ⟨10, _⟩ => ⟨S128, .f32⟩
  | .hbm, ⟨11, _⟩ => ⟨S1024x200x1, .i32⟩
  | .hbm, ⟨12, _⟩ => ⟨S1024x200, .i32⟩
  | .hbm, ⟨13, _⟩ => ⟨S_, .i32⟩
  | .hbm, ⟨14, _⟩ => ⟨S1024x200, .i32⟩
  | .hbm, ⟨15, _⟩ => ⟨S1024x200, .i1⟩
  | .hbm, ⟨16, _⟩ => ⟨S_, .i32⟩
  | .hbm, ⟨17, _⟩ => ⟨S1024x200, .i32⟩
  | .hbm, ⟨18, _⟩ => ⟨S1024x200, .i32⟩
  | .hbm, ⟨19, _⟩ => ⟨S1024x200, .i32⟩
  | .hbm, ⟨20, _⟩ => ⟨S1024x200x1, .i32⟩
  | .hbm, ⟨21, _⟩ => ⟨S1, .i32⟩
  | .hbm, ⟨22, _⟩ => ⟨S_, .i32⟩
  | .hbm, ⟨23, _⟩ => ⟨S1024x200x1, .i32⟩
  | .hbm, ⟨24, _⟩ => ⟨S1024x200x1, .i1⟩
  | .hbm, ⟨25, _⟩ => ⟨S1x1x1, .i32⟩
  | .hbm, ⟨26, _⟩ => ⟨S1024x200x1, .i32⟩
  | .hbm, ⟨27, _⟩ => ⟨S1024x200x1, .i1⟩
  | .hbm, ⟨28, _⟩ => ⟨S1024x200x1, .i1⟩
  | .hbm, ⟨29, _⟩ => ⟨S_, .i1⟩
  | .hbm, ⟨30, _⟩ => ⟨S1024x200, .i1⟩
  | .hbm, ⟨31, _⟩ => ⟨S1024x200x16, .f32⟩
  | .hbm, ⟨32, _⟩ => ⟨S1024x200x16, .i1⟩
  | .hbm, ⟨33, _⟩ => ⟨S_, .f32⟩
  | .hbm, ⟨34, _⟩ => ⟨S1024x200x16, .f32⟩
  | .hbm, ⟨35, _⟩ => ⟨S1024x200x16, .f32⟩
  | .hbm, ⟨36, _⟩ => ⟨S1024x200x1, .i32⟩
  | .hbm, ⟨37, _⟩ => ⟨S1024x200, .i32⟩
  | .hbm, ⟨38, _⟩ => ⟨S_, .i32⟩
  | .hbm, ⟨39, _⟩ => ⟨S1024x200, .i32⟩
  | .hbm, ⟨40, _⟩ => ⟨S1024x200, .i1⟩
  | .hbm, ⟨41, _⟩ => ⟨S_, .i32⟩
  | .hbm, ⟨42, _⟩ => ⟨S1024x200, .i32⟩
  | .hbm, ⟨43, _⟩ => ⟨S1024x200, .i32⟩
  | .hbm, ⟨44, _⟩ => ⟨S1024x200, .i32⟩
  | .hbm, ⟨45, _⟩ => ⟨S1024x200x1, .i32⟩
  | .hbm, ⟨46, _⟩ => ⟨S1, .i32⟩
  | .hbm, ⟨47, _⟩ => ⟨S_, .i32⟩
  | .hbm, ⟨48, _⟩ => ⟨S1024x200x1, .i32⟩
  | .hbm, ⟨49, _⟩ => ⟨S1024x200x1, .i1⟩
  | .hbm, ⟨50, _⟩ => ⟨S1x1x1, .i32⟩
  | .hbm, ⟨51, _⟩ => ⟨S1024x200x1, .i32⟩
  | .hbm, ⟨52, _⟩ => ⟨S1024x200x1, .i1⟩
  | .hbm, ⟨53, _⟩ => ⟨S1024x200x1, .i1⟩
  | .hbm, ⟨54, _⟩ => ⟨S_, .i1⟩
  | .hbm, ⟨55, _⟩ => ⟨S1024x200, .i1⟩
  | .hbm, ⟨56, _⟩ => ⟨S1024x200x16, .f32⟩
  | .hbm, ⟨57, _⟩ => ⟨S1024x200x16, .i1⟩
  | .hbm, ⟨58, _⟩ => ⟨S_, .f32⟩
  | .hbm, ⟨59, _⟩ => ⟨S1024x200x16, .f32⟩
  | .hbm, ⟨60, _⟩ => ⟨S1024x200x16, .f32⟩
  | .hbm, ⟨61, _⟩ => ⟨S1024x200x1, .i32⟩
  | .hbm, ⟨62, _⟩ => ⟨S1024x200, .i32⟩
  | .hbm, ⟨63, _⟩ => ⟨S_, .i32⟩
  | .hbm, ⟨64, _⟩ => ⟨S1024x200, .i32⟩
  | .hbm, ⟨65, _⟩ => ⟨S1024x200, .i1⟩
  | .hbm, ⟨66, _⟩ => ⟨S_, .i32⟩
  | .hbm, ⟨67, _⟩ => ⟨S1024x200, .i32⟩
  | .hbm, ⟨68, _⟩ => ⟨S1024x200, .i32⟩
  | .hbm, ⟨69, _⟩ => ⟨S1024x200, .i32⟩
  | .hbm, ⟨70, _⟩ => ⟨S1024x200x1, .i32⟩
  | .hbm, ⟨71, _⟩ => ⟨S1, .i32⟩
  | .hbm, ⟨72, _⟩ => ⟨S_, .i32⟩
  | .hbm, ⟨73, _⟩ => ⟨S1024x200x1, .i32⟩
  | .hbm, ⟨74, _⟩ => ⟨S1024x200x1, .i1⟩
  | .hbm, ⟨75, _⟩ => ⟨S1x1x1, .i32⟩
  | .hbm, ⟨76, _⟩ => ⟨S1024x200x1, .i32⟩
  | .hbm, ⟨77, _⟩ => ⟨S1024x200x1, .i1⟩
  | .hbm, ⟨78, _⟩ => ⟨S1024x200x1, .i1⟩
  | .hbm, ⟨79, _⟩ => ⟨S_, .i1⟩
  | .hbm, ⟨80, _⟩ => ⟨S1024x200, .i1⟩
  | .hbm, ⟨81, _⟩ => ⟨S1024x200x16, .f32⟩
  | .hbm, ⟨82, _⟩ => ⟨S1024x200x16, .i1⟩
  | .hbm, ⟨83, _⟩ => ⟨S_, .f32⟩
  | .hbm, ⟨84, _⟩ => ⟨S1024x200x16, .f32⟩
  | .hbm, ⟨85, _⟩ => ⟨S1024x200x16, .f32⟩
  | .hbm, ⟨86, _⟩ => ⟨S1024x200x16, .f32⟩
  | .hbm, ⟨87, _⟩ => ⟨S1x1x16, .f32⟩
  | .hbm, ⟨88, _⟩ => ⟨S1024x200x16, .f32⟩
  | .hbm, ⟨89, _⟩ => ⟨S1024x200x16, .f32⟩
  | .hbm, ⟨90, _⟩ => ⟨S_, .f32⟩
  | .hbm, ⟨91, _⟩ => ⟨S1024x200, .f32⟩
  | .hbm, ⟨92, _⟩ => ⟨S1024x200x1, .f32⟩
  | .hbm, ⟨93, _⟩ => ⟨S_, .f32⟩
  | .hbm, ⟨94, _⟩ => ⟨S1024x200x1, .f32⟩
  | .hbm, ⟨95, _⟩ => ⟨S1024x200x1, .f32⟩
  | .hbm, ⟨96, _⟩ => ⟨S1024x200x16, .f32⟩
  | .hbm, ⟨97, _⟩ => ⟨S1024x200x16, .f32⟩
  | .hbm, ⟨98, _⟩ => ⟨S1024x200x16, .f32⟩
  | .hbm, ⟨99, _⟩ => ⟨S_, .f32⟩
  | .hbm, ⟨100, _⟩ => ⟨S1024x200, .f32⟩
  | .hbm, ⟨101, _⟩ => ⟨S1024x200x1, .f32⟩
  | .hbm, ⟨102, _⟩ => ⟨S_, .f32⟩
  | .hbm, ⟨103, _⟩ => ⟨S1024x200x1, .f32⟩
  | .hbm, ⟨104, _⟩ => ⟨S1024x200x1, .f32⟩
  | .hbm, ⟨105, _⟩ => ⟨S1024x200x16, .f32⟩
  | .hbm, ⟨106, _⟩ => ⟨S1024x200x16, .f32⟩
  | .hbm, ⟨107, _⟩ => ⟨S_, .f32⟩
  | .hbm, ⟨108, _⟩ => ⟨S1024x200x1, .f32⟩
  | .hbm, ⟨109, _⟩ => ⟨S1024x200x1, .f32⟩
  | .hbm, ⟨110, _⟩ => ⟨S1024x200x1, .f32⟩
  | .hbm, ⟨111, _⟩ => ⟨S1024x200x16, .f32⟩
  | .hbm, ⟨112, _⟩ => ⟨S1024x200x16, .f32⟩
  | .hbm, ⟨113, _⟩ => ⟨S1x1x16, .f32⟩
  | .hbm, ⟨114, _⟩ => ⟨S1024x200x16, .f32⟩
  | .hbm, ⟨115, _⟩ => ⟨S1024x200x16, .f32⟩
  | .hbm, ⟨116, _⟩ => ⟨S1x1x16, .f32⟩
  | .hbm, ⟨117, _⟩ => ⟨S1024x200x16, .f32⟩
  | .hbm, ⟨118, _⟩ => ⟨S1024x200x16, .f32⟩
  | .hbm, ⟨119, _⟩ => ⟨S1024x200x64, .f32⟩
  | .hbm, ⟨120, _⟩ => ⟨S1024x200x128, .f32⟩
  | .hbm, ⟨121, _⟩ => ⟨S1x1x128, .f32⟩
  | .hbm, ⟨122, _⟩ => ⟨S1024x200x128, .f32⟩
  | .hbm, ⟨123, _⟩ => ⟨S1024x200x128, .f32⟩
  | _, _ => ⟨S1024x200x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v8 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_cst : Ref sig .tc := ⟨.hbm, 90, rfl⟩
abbrev main_v13 : Ref sig .tc := ⟨.hbm, 91, rfl⟩
abbrev main_v14 : Ref sig .tc := ⟨.hbm, 92, rfl⟩
abbrev main_cst_0 : Ref sig .tc := ⟨.hbm, 93, rfl⟩
abbrev main_v15 : Ref sig .tc := ⟨.hbm, 94, rfl⟩
abbrev main_v16 : Ref sig .tc := ⟨.hbm, 95, rfl⟩
abbrev main_v17 : Ref sig .tc := ⟨.hbm, 96, rfl⟩
abbrev main_v18 : Ref sig .tc := ⟨.hbm, 97, rfl⟩
abbrev main_v19 : Ref sig .tc := ⟨.hbm, 98, rfl⟩
abbrev main_cst_1 : Ref sig .tc := ⟨.hbm, 99, rfl⟩
abbrev main_v20 : Ref sig .tc := ⟨.hbm, 100, rfl⟩
abbrev main_v21 : Ref sig .tc := ⟨.hbm, 101, rfl⟩
abbrev main_cst_2 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_v25 : Ref sig .tc := ⟨.hbm, 106, rfl⟩
abbrev main_cst_3 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩

abbrev nD : Nat := 1
abbrev τ : Topo := Topo.v7x

variable {F : FTy → Type} [FloatOps F]
-- ==== Proof.Ring.lean ====
/- The write ring of the program `KernelIdeal`: its region sends the row blocks of `main_v8` out through the four tiles
   of `cc0_scratch0`, each copy waited for four grid points after it was started. This module names the tiles, the row
   blocks and the semaphore cells, says what the region holds of them before each point, and shows how one point's
   step changes that. -/
module

public import proofs.«01_k».proof.Proof.Gen.KernelIdeal.Skeleton
public import proofs.«01_k».proof.Proof.Gen.KernelIdeal.Frame
public import Idealize.ShloMosaic.Lib.Ring.WriteBehind

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

/-! ## Tiles, row blocks and cells -/

/-- The scratch buffer, whole. -/
abbrev scr : Memref sig .tc .vmem S4x10240x128 .f32 := Memref.whole cc0_scratch0
/-- The result buffer, whole. -/
abbrev res : Memref sig .tc .hbm S204800x128 .f32 := Memref.whole main_v8

/-- Tile `g` lies in the scratch buffer; -/
theorem tile_inb (g : Fin 4) : ∀ a, (![g.val, 0, 0] : Fin 3 → Nat) a + S1x10240x128.size a ≤ S4x10240x128.size a := by
  have := g.isLt
  intro a
  fin_cases a <;> simp <;> omega
/-- row block `u` lies in the result; -/
theorem rows_inb (u : Fin 20) : ∀ a, (![10240 * u.val, 0] : Fin 2 → Nat) a + S10240x128.size a ≤ S204800x128.size a := by
  have := u.isLt
  intro a
  fin_cases a <;> simp <;> omega
/-- cell `g` lies in the semaphore array. -/
theorem cell_inb (g : Fin 4) : ∀ a, (![g.val] : Fin 1 → Nat) a + S1.size a ≤ S4.size a := by
  have := g.isLt
  intro a
  fin_cases a
  simp
  omega

/-- Tile `g` of the scratch buffer. -/
def tile (g : Fin 4) : Memref sig .tc .vmem S10240x128 .f32 :=
  (scr.slice (Rect.unit (s := S4x10240x128) ![g.val, 0, 0] S1x10240x128.size (tile_inb g)) (fun _ => rfl)).squeeze S10240x128 squeezes_S1x10240x128_S10240x128
/-- Row block `u` of the result: what point `u`'s copy writes. -/
def rows (u : Fin 20) : Memref sig .tc .hbm S10240x128 .f32 :=
  res.slice (Rect.unit (s := S204800x128) ![10240 * u.val, 0] S10240x128.size (rows_inb u)) (fun _ => rfl)
/-- Semaphore cell `g`: the one tile `g`'s copies are counted on. -/
def cell (g : Fin 4) : DmaSems sig S_ :=
  (cc0_scratch1.slice (Rect.unit (s := S4) ![g.val] S1.size (cell_inb g))).squeeze S_ squeezes_S1_S_
/-- The semaphore that is cell `g`. -/
abbrev cellLoc (g : Fin 4) : SemLoc sig := SemLoc.dma (cell g).sem

/-- The elements of tile `g` inside the scratch buffer. -/
abbrev tileSet (g : Fin 4) : Finset S4x10240x128.Idx := (Rect.unit (s := S4x10240x128) ![g.val, 0, 0] S1x10240x128.size (tile_inb g)).set
/-- The elements of row block `u` inside the result. -/
abbrev rowsSet (u : Fin 20) : Finset S204800x128.Idx := (Rect.unit (s := S204800x128) ![10240 * u.val, 0] S10240x128.size (rows_inb u)).set
/-- Tile `g`'s view covers those elements, -/
theorem tile_set (g : Fin 4) : (tile g).view.set = tileSet g := by
  simp only [tile, Memref.view_squeeze, View.set_reshape]
  exact View.set_slice_whole _ _
/-- and row block `u`'s view those. -/
theorem rows_set (u : Fin 20) : (rows u).view.set = rowsSet u := by
  simp only [rows]
  exact View.set_slice_whole _ _
/-- Different tiles share no element, nor do different row blocks. -/
theorem tiles_disjoint (g g' : Fin 4) (h : g ≠ g') : Disjoint (tileSet g) (tileSet g') :=
  Ring.boxes_disjoint (s := S4x10240x128) S1x10240x128.size (fun g : Fin 4 => ![g.val, 0, 0]) tile_inb (fun g => ![g.val, 0, 0])
    (fun g a => by fin_cases a <;> simp) (fun v => Fin.ofNat 4 (v 0)) (by decide) g g' h
/-- Different row blocks share no element. -/
theorem rows_disjoint (u u' : Fin 20) (h : u ≠ u') : Disjoint (rowsSet u) (rowsSet u') :=
  Ring.boxes_disjoint (s := S204800x128) S10240x128.size (fun u : Fin 20 => ![10240 * u.val, 0]) rows_inb (fun u => ![u.val, 0])
    (fun u a => by fin_cases a <;> simp <;> omega) (fun v => Fin.ofNat 20 (v 0)) (by decide) u u' h
/-- The row block that row `r` lies in. -/
def blockOfRow (i : S204800x128.Idx) : Fin 20 :=
  ⟨(i 0).val / 10240, by have h : (i 0).val < 204800 := (i 0).isLt; omega⟩
/-- An element of the result is in row block `u` when its row is. -/
theorem mem_rowsSet (i : S204800x128.Idx) (u : Fin 20) : i ∈ rowsSet u ↔ blockOfRow i = u := by
  have h0 : (i 0).val < 204800 := (i 0).isLt
  have h1 : (i 1).val < 128 := (i 1).isLt
  rw [Rect.mem_set_unit]
  constructor
  · intro h
    have := h 0
    simp at this
    refine Fin.ext ?_
    simp only [blockOfRow]
    omega
  · rintro rfl a
    fin_cases a <;> simp [blockOfRow] <;> omega
/-- The row blocks make up the whole result. -/
theorem rows_cover : Finset.univ.biUnion rowsSet = Finset.univ := by
  ext i
  simp only [Finset.mem_biUnion, Finset.mem_univ, true_and, iff_true]
  exact ⟨blockOfRow i, (mem_rowsSet i _).mpr rfl⟩

/-- The four cells, by their numbers. -/
theorem cellLoc_eq : ∀ g : Fin 4, cellLoc g = (![SemLoc.dma 11, SemLoc.dma 12, SemLoc.dma 13, SemLoc.dma 14] : Fin 4 → SemLoc sig) g := by decide

/-! ## The pieces the region holds -/

section Pieces
variable (c : Dev nD)

/-- Contents of the scratch buffer on core `c`. -/
abbrev ScrBuf : Type := Buf (Elt F) ((c : Thread nD τ).loc cc0_scratch0)
/-- Contents of the result buffer on core `c`. -/
abbrev ResBuf : Type := Buf (Elt F) ((c : Thread nD τ).loc main_v8)
/-- Tile `g` held at `e`. -/
abbrev tileAt (g : Fin 4) (e : Buf (Elt F) ((tile g).view.loc (c : Thread nD τ))) : sProp 𝕄 :=
  (tile g).view.loc (c : Thread nD τ) ↦[(tile g).view.set]{fullShare} e
/-- Row block `u` held at `f`. -/
abbrev rowsAt (u : Fin 20) (f : Buf (Elt F) ((rows u).view.loc (c : Thread nD τ))) : sProp 𝕄 :=
  (rows u).view.loc (c : Thread nD τ) ↦[(rows u).view.set]{fullShare} f
/-- Cell `g` at zero. -/
abbrev cellZero (g : Fin 4) : sProp 𝕄 := semVal ((c : Thread nD τ), cellLoc g) 0
/-- The copy of tile `g` to row block `u` under way on cell `g`: once counted it hands over the row block at `f` and the
    tile. -/
abbrev flight (g : Fin 4) (u : Fin 20) (f : Buf (Elt F) ((rows u).view.loc (c : Thread nD τ))) : sProp 𝕄 :=
  iprop(∃ e, Transfers.Flight countersEmb (c : Thread nD τ) (cellLoc g) default ((rows u).view.amount (cellLoc g)) iprop(rowsAt c u f ∗ tileAt c g e))

end Pieces

/-! ## The body's operands at a point are these tiles, row blocks and cells -/

/-- The body waits for an earlier copy from point 4 on; at the last point it waits for every copy still under way. -/
abbrev condWait (i : grid0.Coords) : Prop := k0_cond1 i = 1#1
/-- The point is the last, where the body waits for every copy under way. -/
abbrev condDrain (i : grid0.Coords) : Prop := (Scalar.cmpi .ne (Scalar.extui (Scalar.cmpi .eq (BitVec.ofNat 32 (i 0).val) 19#32)) 0#32) = 1#1
/-- The body waits for an earlier copy from point 4 on; -/
theorem condWait_iff : ∀ t : Fin grid0.N, condWait (grid0.coords t) ↔ 4 ≤ t.val := by decide +kernel
/-- it waits for all that are left at point 19. -/
theorem condDrain_iff : ∀ t : Fin grid0.N, condDrain (grid0.coords t) ↔ t.val = 19 := by decide +kernel

section Canon
omit [FloatOps F]

/-- The copy that starts at point `t` is counted on the cell of `t`'s turn in the ring, -/
theorem off5_eq : ∀ t : Fin grid0.N, k0_off5 (grid0.coords t) = ![(Ring.sl 4 t.val).val] := by decide +kernel
/-- reads the tile of `t`'s turn, -/
theorem off7_eq : ∀ t : Fin grid0.N, k0_off7 (grid0.coords t) = ![(Ring.sl 4 t.val).val, 0, 0] := by decide +kernel
/-- and writes row block `t`. -/
theorem off6_eq : ∀ t : Fin grid0.N, k0_off6 (grid0.coords t) = ![10240 * (Ring.bk 20 t.val).val, 0] := by decide +kernel
/-- The wait at point `t` is on the cell of `t`'s turn, -/
theorem off1_eq : ∀ t : Fin grid0.N, k0_off1 (grid0.coords t) = ![(Ring.sl 4 t.val).val] := by decide +kernel
/-- for the copy of the tile of `t`'s turn; -/
theorem off3_eq : ∀ t : Fin grid0.N, k0_off3 (grid0.coords t) = ![(Ring.sl 4 t.val).val, 0, 0] := by decide +kernel
/-- and the body stores its block in that tile. -/
theorem off4_eq : ∀ t : Fin grid0.N, k0_off4 (grid0.coords t) = ![(Ring.sl 4 t.val).val, 0, 0] := by decide +kernel

/-- A slice of the semaphore array at a cell's offset is that cell; a slice of the scratch buffer at a tile's offset is that tile. -/
theorem cell_of_off (g : Fin 4) (o : Fin 1 → Nat) (h : o = ![g.val]) (hin) :
    (cc0_scratch1.slice (Rect.unit (s := S4) o S1.size hin)).squeeze S_ squeezes_S1_S_ = cell g := by subst h; rfl
/-- A slice of the scratch buffer at a tile's offset is that tile. -/
theorem tile_of_off (g : Fin 4) (o : Fin 3 → Nat) (h : o = ![g.val, 0, 0]) (hin) (hs) :
    (scr.slice (Rect.unit (s := S4x10240x128) o S1x10240x128.size hin) hs).squeeze S10240x128 squeezes_S1x10240x128_S10240x128 = tile g := by subst h; rfl
/-- A slice of the result at a row block's offset is that row block. -/
theorem rows_of_off (u : Fin 20) (o : Fin 2 → Nat) (h : o = ![10240 * u.val, 0]) (hin) (hs) :
    res.slice (Rect.unit (s := S204800x128) o S10240x128.size hin) hs = rows u := by subst h; rfl

/-- The operands of the copy that starts at point `t`: its cell, its tile and its row block, each in the two ways the sizes are written. -/
@[sl_canon] theorem canon_start_cell (t : Fin grid0.N) :
    (cc0_scratch1.slice (Rect.unit (s := S4) (k0_off5 (grid0.coords t)) S1.size (k0_off5_inb (grid0.coords t)))).squeeze S_ squeezes_S1_S_ = cell (Ring.sl 4 t.val) :=
  cell_of_off _ _ (off5_eq t) _
@[sl_canon] theorem canon_start_cell' (t : Fin grid0.N) :
    (cc0_scratch1.slice (Rect.unit (s := S4) (k0_off5 (grid0.coords t)) ![1] (k0_off5_inb (grid0.coords t)))).squeeze S_ squeezes_S1_S_ = cell (Ring.sl 4 t.val) :=
  canon_start_cell t
@[sl_canon] theorem canon_start_tile (t : Fin grid0.N) :
    (scr.slice (Rect.unit (s := S4x10240x128) (k0_off7 (grid0.coords t)) S1x10240x128.size (k0_off7_inb (grid0.coords t))) (fun _ => rfl)).squeeze S10240x128 squeezes_S1x10240x128_S10240x128 = tile (Ring.sl 4 t.val) :=
  tile_of_off _ _ (off7_eq t) _ _
@[sl_canon] theorem canon_start_tile' (t : Fin grid0.N) :
    (scr.slice (Rect.unit (s := S4x10240x128) (k0_off7 (grid0.coords t)) ![1, 10240, 128] (k0_off7_inb (grid0.coords t))) (fun _ => rfl)).squeeze S10240x128 squeezes_S1x10240x128_S10240x128 = tile (Ring.sl 4 t.val) :=
  canon_start_tile t
@[sl_canon] theorem canon_start_rows (t : Fin grid0.N) :
    res.slice (Rect.unit (s := S204800x128) (k0_off6 (grid0.coords t)) S10240x128.size (k0_off6_inb (grid0.coords t))) (fun _ => rfl) = rows (Ring.bk 20 t.val) :=
  rows_of_off _ _ (off6_eq t) _ _
@[sl_canon] theorem canon_start_rows' (t : Fin grid0.N) :
    res.slice (Rect.unit (s := S204800x128) (k0_off6 (grid0.coords t)) ![10240, 128] (k0_off6_inb (grid0.coords t))) (fun _ => rfl) = rows (Ring.bk 20 t.val) :=
  canon_start_rows t
/-- The operands of the wait at point `t`: the cell and the tile of `t`'s turn. -/
@[sl_canon] theorem canon_wait_cell (t : Fin grid0.N) (h : condWait (grid0.coords t)) :
    (cc0_scratch1.slice (Rect.unit (s := S4) (k0_off1 (grid0.coords t)) S1.size (k0_off1_inb (grid0.coords t) h))).squeeze S_ squeezes_S1_S_ = cell (Ring.sl 4 t.val) :=
  cell_of_off _ _ (off1_eq t) _
@[sl_canon] theorem canon_wait_cell' (t : Fin grid0.N) (h : condWait (grid0.coords t)) :
    (cc0_scratch1.slice (Rect.unit (s := S4) (k0_off1 (grid0.coords t)) ![1] (k0_off1_inb (grid0.coords t) h))).squeeze S_ squeezes_S1_S_ = cell (Ring.sl 4 t.val) :=
  canon_wait_cell t h
@[sl_canon] theorem canon_wait_tile (t : Fin grid0.N) (h : condWait (grid0.coords t)) :
    (scr.slice (Rect.unit (s := S4x10240x128) (k0_off3 (grid0.coords t)) S1x10240x128.size (k0_off3_inb (grid0.coords t) h)) (fun _ => rfl)).squeeze S10240x128 squeezes_S1x10240x128_S10240x128 = tile (Ring.sl 4 t.val) :=
  tile_of_off _ _ (off3_eq t) _ _
@[sl_canon] theorem canon_wait_tile' (t : Fin grid0.N) (h : condWait (grid0.coords t)) :
    (scr.slice (Rect.unit (s := S4x10240x128) (k0_off3 (grid0.coords t)) ![1, 10240, 128] (k0_off3_inb (grid0.coords t) h)) (fun _ => rfl)).squeeze S10240x128 squeezes_S1x10240x128_S10240x128 = tile (Ring.sl 4 t.val) :=
  canon_wait_tile t h

/-- At the last point, which starts from tile 3, the four cells waited for are those of the tiles that follow it around the ring. -/
theorem drain_slot : ∀ t : Fin grid0.N, condDrain (grid0.coords t) → Ring.sl 4 t.val = 3 ∧ Ring.sl 4 (t.val + 1) = 0 ∧ Ring.sl 4 (t.val + 2) = 1 ∧ Ring.sl 4 (t.val + 3) = 2 := by decide +kernel
/-- The operands of the four waits at the last point: the cells here, the tiles below. -/
@[sl_canon] theorem canon_drain_cell0 (t : Fin grid0.N) (h : condDrain (grid0.coords t)) :
    (cc0_scratch1.slice (Rect.unit (s := S4) ![0] S1.size inb_S4_S1_0)).squeeze S_ squeezes_S1_S_ = cell (Ring.sl 4 (t.val + 1)) :=
  cell_of_off _ _ (by rw [(drain_slot t h).2.1]; rfl) _
@[sl_canon] theorem canon_drain_cell0' (t : Fin grid0.N) (h : condDrain (grid0.coords t)) :
    (cc0_scratch1.slice (Rect.unit (s := S4) ![0] ![1] inb_S4_S1_0)).squeeze S_ squeezes_S1_S_ = cell (Ring.sl 4 (t.val + 1)) := canon_drain_cell0 t h
@[sl_canon] theorem canon_drain_cell1 (t : Fin grid0.N) (h : condDrain (grid0.coords t)) :
    (cc0_scratch1.slice (Rect.unit (s := S4) ![1] S1.size inb_S4_S1_1)).squeeze S_ squeezes_S1_S_ = cell (Ring.sl 4 (t.val + 2)) :=
  cell_of_off _ _ (by rw [(drain_slot t h).2.2.1]; rfl) _
@[sl_canon] theorem canon_drain_cell1' (t : Fin grid0.N) (h : condDrain (grid0.coords t)) :
    (cc0_scratch1.slice (Rect.unit (s := S4) ![1] ![1] inb_S4_S1_1)).squeeze S_ squeezes_S1_S_ = cell (Ring.sl 4 (t.val + 2)) := canon_drain_cell1 t h
@[sl_canon] theorem canon_drain_cell2 (t : Fin grid0.N) (h : condDrain (grid0.coords t)) :
    (cc0_scratch1.slice (Rect.unit (s := S4) ![2] S1.size inb_S4_S1_2)).squeeze S_ squeezes_S1_S_ = cell (Ring.sl 4 (t.val + 3)) :=
  cell_of_off _ _ (by rw [(drain_slot t h).2.2.2]; rfl) _
@[sl_canon] theorem canon_drain_cell2' (t : Fin grid0.N) (h : condDrain (grid0.coords t)) :
    (cc0_scratch1.slice (Rect.unit (s := S4) ![2] ![1] inb_S4_S1_2)).squeeze S_ squeezes_S1_S_ = cell (Ring.sl 4 (t.val + 3)) := canon_drain_cell2 t h
@[sl_canon] theorem canon_drain_cell3 (t : Fin grid0.N) (h : condDrain (grid0.coords t)) :
    (cc0_scratch1.slice (Rect.unit (s := S4) ![3] S1.size inb_S4_S1_3)).squeeze S_ squeezes_S1_S_ = cell (Ring.sl 4 t.val) :=
  cell_of_off _ _ (by rw [(drain_slot t h).1]; rfl) _
@[sl_canon] theorem canon_drain_cell3' (t : Fin grid0.N) (h : condDrain (grid0.coords t)) :
    (cc0_scratch1.slice (Rect.unit (s := S4) ![3] ![1] inb_S4_S1_3)).squeeze S_ squeezes_S1_S_ = cell (Ring.sl 4 t.val) := canon_drain_cell3 t h
@[sl_canon] theorem canon_drain_tile0 (t : Fin grid0.N) (h : condDrain (grid0.coords t)) :
    (scr.slice (Rect.unit (s := S4x10240x128) ![0, 0, 0] S1x10240x128.size inb_S4x10240x128_S1x10240x128_0_0_0) (fun _ => rfl)).squeeze S10240x128 squeezes_S1x10240x128_S10240x128 = tile (Ring.sl 4 (t.val + 1)) :=
  tile_of_off _ _ (by rw [(drain_slot t h).2.1]; rfl) _ _
@[sl_canon] theorem canon_drain_tile0' (t : Fin grid0.N) (h : condDrain (grid0.coords t)) :
    (scr.slice (Rect.unit (s := S4x10240x128) ![0, 0, 0] ![1, 10240, 128] inb_S4x10240x128_S1x10240x128_0_0_0) (fun _ => rfl)).squeeze S10240x128 squeezes_S1x10240x128_S10240x128 = tile (Ring.sl 4 (t.val + 1)) := canon_drain_tile0 t h
@[sl_canon] theorem canon_drain_tile1 (t : Fin grid0.N) (h : condDrain (grid0.coords t)) :
    (scr.slice (Rect.unit (s := S4x10240x128) ![1, 0, 0] S1x10240x128.size inb_S4x10240x128_S1x10240x128_1_0_0) (fun _ => rfl)).squeeze S10240x128 squeezes_S1x10240x128_S10240x128 = tile (Ring.sl 4 (t.val + 2)) :=
  tile_of_off _ _ (by rw [(drain_slot t h).2.2.1]; rfl) _ _
@[sl_canon] theorem canon_drain_tile1' (t : Fin grid0.N) (h : condDrain (grid0.coords t)) :
    (scr.slice (Rect.unit (s := S4x10240x128) ![1, 0, 0] ![1, 10240, 128] inb_S4x10240x128_S1x10240x128_1_0_0) (fun _ => rfl)).squeeze S10240x128 squeezes_S1x10240x128_S10240x128 = tile (Ring.sl 4 (t.val + 2)) := canon_drain_tile1 t h
@[sl_canon] theorem canon_drain_tile2 (t : Fin grid0.N) (h : condDrain (grid0.coords t)) :
    (scr.slice (Rect.unit (s := S4x10240x128) ![2, 0, 0] S1x10240x128.size inb_S4x10240x128_S1x10240x128_2_0_0) (fun _ => rfl)).squeeze S10240x128 squeezes_S1x10240x128_S10240x128 = tile (Ring.sl 4 (t.val + 3)) :=
  tile_of_off _ _ (by rw [(drain_slot t h).2.2.2]; rfl) _ _
@[sl_canon] theorem canon_drain_tile2' (t : Fin grid0.N) (h : condDrain (grid0.coords t)) :
    (scr.slice (Rect.unit (s := S4x10240x128) ![2, 0, 0] ![1, 10240, 128] inb_S4x10240x128_S1x10240x128_2_0_0) (fun _ => rfl)).squeeze S10240x128 squeezes_S1x10240x128_S10240x128 = tile (Ring.sl 4 (t.val + 3)) := canon_drain_tile2 t h
@[sl_canon] theorem canon_drain_tile3 (t : Fin grid0.N) (h : condDrain (grid0.coords t)) :
    (scr.slice (Rect.unit (s := S4x10240x128) ![3, 0, 0] S1x10240x128.size inb_S4x10240x128_S1x10240x128_3_0_0) (fun _ => rfl)).squeeze S10240x128 squeezes_S1x10240x128_S10240x128 = tile (Ring.sl 4 t.val) :=
  tile_of_off _ _ (by rw [(drain_slot t h).1]; rfl) _ _
@[sl_canon] theorem canon_drain_tile3' (t : Fin grid0.N) (h : condDrain (grid0.coords t)) :
    (scr.slice (Rect.unit (s := S4x10240x128) ![3, 0, 0] ![1, 10240, 128] inb_S4x10240x128_S1x10240x128_3_0_0) (fun _ => rfl)).squeeze S10240x128 squeezes_S1x10240x128_S10240x128 = tile (Ring.sl 4 t.val) := canon_drain_tile3 t h

/-- The body stores its block at its tile's offset. -/
instance (priority := high) storeOff (t : Fin grid0.N) : ClosedOff (k0_off4 (grid0.coords t)) := ⟨![(Ring.sl 4 t.val).val, 0, 0], off4_eq t⟩

end Canon

end Cert.KernelIdeal.Hand

end
-- ==== Proof.Step.lean ====
/- What one point of the region `KernelIdeal` computes, as a function of the blocks of its ten windows, and what the
   row block it sends out then holds. -/
module

public import proofs.«01_k».proof.Proof.Ring
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

/-! ## The block one point computes -/

/-- The whole block, as the load rectangle the body reads a window through. -/
abbrev box (s : Shape) (o z : Fin s.rank → Nat) (h : ∀ a, o a + z a ≤ s.size a) : LoadRect s := (Rect.unit (s := s) o z h).toLoadRect
/-- What a load through `B` reads of a block that holds `x`. -/
abbrev ld {s : Shape} {e : EltTy} (B : LoadRect s) (x : s.Idx → Elt F e) : B.shape.Idx → Elt F e := fun j => x (B.idx j)

/-- Reading through `B` from a whole buffer that holds `x` gives the read of `x`. -/
theorem readAt_unread_eq {sp : Space} {s : Shape} {e : EltTy} {m : Memref sig .tc sp s e} (h : Memref.IsWhole m) (x : s.Idx → Elt F e) (B : LoadRect s) :
    View.readAt (Elt F) m.view B (h.unread x) = ld B x :=
  funext fun j => Memref.IsWhole.readAt_unread h x B j

/-- The matrix that the one-hot columns and the normalised columns are multiplied by. -/
def w28 (x1 x2 : Vec F S8x16 .f32) (x3 : Vec F S4x16 .f32) (x8 : Vec F S64x128 .f32) : FVec F S28x128 .f32 :=
  k0_pay2 (ld (box S8x16 ![0, 0] S4x16.size inb_S8x16_S4x16_0_0) x1) (ld (box S64x128 ![0, 0] S16x128.size inb_S64x128_S16x128_0_0) x8)
    (ld (box S8x16 ![0, 0] S4x16.size inb_S8x16_S4x16_0_0) x2) (ld (box S64x128 ![16, 0] S16x128.size inb_S64x128_S16x128_16_0) x8)
    (ld (box S4x16 ![0, 0] S4x16.size inb_S4x16_S4x16_0_0) x3) (ld (box S64x128 ![32, 0] S16x128.size inb_S64x128_S16x128_32_0) x8)
    (ld (box S64x128 ![48, 0] S16x128.size inb_S64x128_S16x128_48_0) x8)
/-- The matrix the joined input row is multiplied by: it copies each category word to four columns and maps the two
    continuous words by the centered weights. -/
def w5 (x4 : Vec F S2x16 .f32) : FVec F S5x28 .f32 :=
  k0_pay8 (k0_pay4 (ld (box S2x16 ![0, 0] S2x16.size inb_S2x16_S2x16_0_0) x4)) (iota .tc S3x12 32 [0] iota_S3x12_d0_w32) (iota .tc S3x12 32 [1] iota_S3x12_d1_w32) 4#32 k0_pay6 k0_pay7
/-- The centered bias, after twelve zeros. -/
def b28 (x5 : Vec F S1x16 .f32) : FVec F S1x28 .f32 :=
  k0_pay9 (k0_pay5 (ld (box S1x16 ![0, 0] S1x16.size inb_S1x16_S1x16_0_0) x5))
/-- The product before the bias row is added. -/
def prod28 (x0 : Vec F S10240x5 .f32) (x1 x2 : Vec F S8x16 .f32) (x3 : Vec F S4x16 .f32) (x4 : Vec F S2x16 .f32) (x5 x6 : Vec F S1x16 .f32) (x8 : Vec F S64x128 .f32) : FVec F S10240x128 .f32 :=
  k0_pay12 (w28 x1 x2 x3 x8) (w5 x4) (b28 x5) k0_pay10 (iota .tc S10240x28 32 [1] iota_S10240x28_d1_w32) k0_pay11 4#32
    (ld (box S1x16 ![0, 0] S1x16.size inb_S1x16_S1x16_0_0) x6) (ld (box S10240x5 ![0, 0] S10240x5.size inb_S10240x5_S10240x5_0_0) x0)
/-- The block a point computes from the blocks of its windows. -/
def stepOut (x0 : Vec F S10240x5 .f32) (x1 x2 : Vec F S8x16 .f32) (x3 : Vec F S4x16 .f32) (x4 : Vec F S2x16 .f32) (x5 x6 x7 : Vec F S1x16 .f32) (x8 : Vec F S64x128 .f32) (x9 : Vec F S1x128 .f32) : FVec F S1x10240x128 .f32 :=
  k0_pay1 (prod28 x0 x1 x2 x3 x4 x5 x6 x8) (ld (box S1x128 ![0, 0] S1x128.size inb_S1x128_S1x128_0_0) x9)
    (ld (box S1x16 ![0, 0] S1x16.size inb_S1x16_S1x16_0_0) x7) (ld (box S64x128 ![48, 0] S16x128.size inb_S64x128_S16x128_48_0) x8)

/-! ## What the row block holds after the copy -/

/-- The block `p` without its leading axis. -/
abbrev flat (p : FVec F S1x10240x128 .f32) : S10240x128.Idx → Elt F .f32 := fun j => p (Shape.reshapeEquiv (by decide) j)

/-- A tile that was stored `p` reads `p` without its leading axis. -/
theorem tile_read (c : Dev nD) (g : Fin 4) (o : Fin 3 → Nat) (ho : o = ![g.val, 0, 0]) (inb) (f : ScrBuf (F := F) c) (p : FVec F S1x10240x128 .f32) :
    View.read (Elt F) (tile g).view (View.write (Elt F) (scr.access (Rect.unit (s := S4x10240x128) o ![1, 10240, 128] inb)) f p Finset.univ) = flat p := by
  subst ho
  funext j
  exact congrFun (View.read_write_univ (v := scr.access (Rect.unit (s := S4x10240x128) ![g.val, 0, 0] ![1, 10240, 128] inb)) f p) _

/-- Contents that read the same value at an index agree on the element there. -/
theorem eq_of_read_eq {sp : Space} {s : Shape} {e : EltTy} {v : View sig .tc sp s e} {f g : v.ty.Contents (Elt F)} {x : s.Idx} {a : Elt F e}
    (hf : v.read (Elt F) f x = a) (hg : v.read (Elt F) g x = a) : f (v.emb x) = g (v.emb x) := by
  have h := hf.trans hg.symm
  rw [View.read_apply, View.read_apply] at h
  exact (cast_inj _).mp h
/-- A view written whole reads what was written. -/
theorem writes_whole_read {sp : Space} {s : Shape} {e : EltTy} {v : View sig .tc sp s e} (f : v.ty.Contents (Elt F)) (d : s.Idx → Elt F e) (x : s.Idx) :
    v.read (Elt F) (v.writes (Elt F) f [⟨Rect.whole s, d⟩]) x = d x := by
  have h := View.read_writes_cons_emb v f (Rect.whole s) d [] x
  rwa [show (Rect.whole s).emb x = x from Rect.emb_whole_apply s x] at h

/-- A view that was written `d` whole is held at any contents that read `d` there. -/
theorem view_landed (c : Dev nD) {sp : Space} {s : Shape} {e : EltTy} (v : View sig .tc sp s e) (f : Buf (Elt F) (v.loc (c : Thread nD τ))) (d : s.Idx → Elt F e)
    (G : Buf (Elt F) (v.loc (c : Thread nD τ))) (h : v.read (Elt F) G = d) :
    (v.loc (c : Thread nD τ) ↦[v.set]{fullShare} v.writes (Elt F) f [⟨Rect.whole s, d⟩] : sProp 𝕄) = v.loc (c : Thread nD τ) ↦[v.set]{fullShare} G := by
  refine pointsTo_congr fun i hi => ?_
  obtain ⟨x, -, rfl⟩ := Finset.mem_map.mp hi
  exact eq_of_read_eq (writes_whole_read f d x) (congrFun h x)

end Cert.KernelIdeal.Hand

end
-- ==== Proof.Runs.lean ====
/- One point of the region `KernelIdeal`, run from what it holds before to what it holds after: the first four points,
   the points that wait for an earlier copy, and the last point, which waits for every copy. -/
module

public import proofs.«01_k».proof.Proof.Step

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

/-- The ten windows' buffers, held at the blocks `x0`, …, `x9`. -/
abbrev held (c : Dev nD) (arg1 : Memref sig .tc .vmem S10240x5 .f32) (arg2 : Memref sig .tc .vmem S8x16 .f32) (arg3 : Memref sig .tc .vmem S8x16 .f32) (arg4 : Memref sig .tc .vmem S4x16 .f32) (arg5 : Memref sig .tc .vmem S2x16 .f32) (arg6 : Memref sig .tc .vmem S1x16 .f32) (arg7 : Memref sig .tc .vmem S1x16 .f32) (arg8 : Memref sig .tc .vmem S1x16 .f32) (arg9 : Memref sig .tc .vmem S64x128 .f32) (arg10 : Memref sig .tc .vmem S1x128 .f32) (x0 : Vec F S10240x5 .f32) (x1 : Vec F S8x16 .f32) (x2 : Vec F S8x16 .f32) (x3 : Vec F S4x16 .f32) (x4 : Vec F S2x16 .f32) (x5 : Vec F S1x16 .f32) (x6 : Vec F S1x16 .f32) (x7 : Vec F S1x16 .f32) (x8 : Vec F S64x128 .f32) (x9 : Vec F S1x128 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9)

section Runs
variable (c : Dev nD) (t : Fin cfg0.N) (arg1 : Memref sig .tc .vmem S10240x5 .f32) (harg1 : arg1.IsWhole) (arg2 : Memref sig .tc .vmem S8x16 .f32) (harg2 : arg2.IsWhole) (arg3 : Memref sig .tc .vmem S8x16 .f32) (harg3 : arg3.IsWhole) (arg4 : Memref sig .tc .vmem S4x16 .f32) (harg4 : arg4.IsWhole) (arg5 : Memref sig .tc .vmem S2x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S64x128 .f32) (harg9 : arg9.IsWhole) (arg10 : Memref sig .tc .vmem S1x128 .f32) (harg10 : arg10.IsWhole)
  (x0 : Vec F S10240x5 .f32) (x1 : Vec F S8x16 .f32) (x2 : Vec F S8x16 .f32) (x3 : Vec F S4x16 .f32) (x4 : Vec F S2x16 .f32) (x5 : Vec F S1x16 .f32) (x6 : Vec F S1x16 .f32) (x7 : Vec F S1x16 .f32) (x8 : Vec F S64x128 .f32) (x9 : Vec F S1x128 .f32)
  (G : ResBuf (F := F) c)

/-- The body at point `t`, run from the windows at `x0`, …, `x9` beside `R` to the same windows beside `R'`. -/
def RunsTo (R R' : sProp 𝕄) : Prop := ∀ (W : Waits sig Unit) (K : PUnit → sProp 𝕄),
  iprop(held c arg1 arg2 arg3 arg4 arg5 arg6 arg7 arg8 arg9 arg10 x0 x1 x2 x3 x4 x5 x6 x7 x8 x9 ∗ R ∗ owes (c : Thread nD τ) 0 W
      ∗ (iprop(held c arg1 arg2 arg3 arg4 arg5 arg6 arg7 arg8 arg9 arg10 x0 x1 x2 x3 x4 x5 x6 x7 x8 x9 ∗ R' ∗ (∃ W', owes (c : Thread nD τ) 0 W')) -∗ K ⟨⟩))
    ⊢ wp frame (wpE (defs₀ (F := F)) Variants.none c none) Set.univ (cc0__fused_body (grid0.coords t) arg1 harg1 arg2 harg2 arg3 harg3 arg4 harg4 arg5 harg5 arg6 harg6 arg7 harg7 arg8 harg8 arg9 harg9 arg10 harg10 (Memref.whole main_v8) (Memref.isWhole_whole _) scr (Memref.isWhole_whole _) cc0_scratch1) K

/-- `G` holds, on row block `t`, the block this point computes. -/
abbrev Computes : Prop := View.read (Elt F) (rows (Ring.bk 20 t.val)).view G = flat (stepOut x0 x1 x2 x3 x4 x5 x6 x7 x8 x9)

end Runs

end Cert.KernelIdeal.Hand

end
-- ==== Proof.RunBoot.lean ====
/- One of the first four points of the region `KernelIdeal`. -/
module

public import proofs.«01_k».proof.Proof.Runs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

section Runs
variable (c : Dev nD) (t : Fin cfg0.N) (arg1 : Memref sig .tc .vmem S10240x5 .f32) (harg1 : arg1.IsWhole) (arg2 : Memref sig .tc .vmem S8x16 .f32) (harg2 : arg2.IsWhole) (arg3 : Memref sig .tc .vmem S8x16 .f32) (harg3 : arg3.IsWhole) (arg4 : Memref sig .tc .vmem S4x16 .f32) (harg4 : arg4.IsWhole) (arg5 : Memref sig .tc .vmem S2x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S64x128 .f32) (harg9 : arg9.IsWhole) (arg10 : Memref sig .tc .vmem S1x128 .f32) (harg10 : arg10.IsWhole)
  (x0 : Vec F S10240x5 .f32) (x1 : Vec F S8x16 .f32) (x2 : Vec F S8x16 .f32) (x3 : Vec F S4x16 .f32) (x4 : Vec F S2x16 .f32) (x5 : Vec F S1x16 .f32) (x6 : Vec F S1x16 .f32) (x7 : Vec F S1x16 .f32) (x8 : Vec F S64x128 .f32) (x9 : Vec F S1x128 .f32)
  (G : ResBuf (F := F) c)

set_option maxHeartbeats 1000000 in
/-- One of the first four points: its tile is free, and it starts a copy of it. -/
theorem run_boot (hc0 : ¬condWait (grid0.coords t)) (hc1 : ¬condDrain (grid0.coords t)) (hG : Computes c t x0 x1 x2 x3 x4 x5 x6 x7 x8 x9 G) :
    RunsTo c t arg1 harg1 arg2 harg2 arg3 harg3 arg4 harg4 arg5 harg5 arg6 harg6 arg7 harg7 arg8 harg8 arg9 harg9 arg10 harg10 x0 x1 x2 x3 x4 x5 x6 x7 x8 x9
      iprop((∃ f, rowsAt c (Ring.bk 20 t.val) f) ∗ cellZero c (Ring.sl 4 t.val) ∗ (∃ e, tileAt c (Ring.sl 4 t.val) e))
      iprop(flight c (Ring.sl 4 t.val) (Ring.bk 20 t.val) G) := by
  haveI : Fact (¬condWait (grid0.coords t)) := ⟨hc0⟩
  haveI : Fact (¬condDrain (grid0.coords t)) := ⟨hc1⟩
  intro W K
  simp only [cc0__fused_body_eq_skeleton]; unfold cc0__fused_body_skel
  simp only [k0_part1_eq_skeleton, k0_part2_eq_skeleton, k0_part3_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨⟨%fp, Hp⟩, Hc, ⟨%ff, HF⟩⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc0 | sl_exact hc1)
  sl_step
  rw [view_landed c (rows (Ring.bk 20 t.val)).view fp _ G ?h]
  swap
  · delta run_boot.sl.dma16 run_boot.sl.HF_w1 run_boot.sl.r_5 run_boot.sl.r_4 run_boot.sl.r_3 run_boot.sl.r_2 run_boot.sl.r_1 run_boot.sl.r run_boot.sl.v70 run_boot.sl.v24 run_boot.sl.v23
    simp only [readAt_unread_eq]
    exact hG.trans (tile_read c (Ring.sl 4 t.val) _ (off4_eq t) _ ff _).symm
  iapply Hk
  isplitl [H0 H1 H2 H3 H4 H5 H6 H7 H8 H9]
  · isplitl [H0]
    · iexists _; isplitr
      · ipureintro; exact harg1.read_unread _
      · iexact H0
    isplitl [H1]
    · iexists _; isplitr
      · ipureintro; exact harg2.read_unread _
      · iexact H1
    isplitl [H2]
    · iexists _; isplitr
      · ipureintro; exact harg3.read_unread _
      · iexact H2
    isplitl [H3]
    · iexists _; isplitr
      · ipureintro; exact harg4.read_unread _
      · iexact H3
    isplitl [H4]
    · iexists _; isplitr
      · ipureintro; exact harg5.read_unread _
      · iexact H4
    isplitl [H5]
    · iexists _; isplitr
      · ipureintro; exact harg6.read_unread _
      · iexact H5
    isplitl [H6]
    · iexists _; isplitr
      · ipureintro; exact harg7.read_unread _
      · iexact H6
    isplitl [H7]
    · iexists _; isplitr
      · ipureintro; exact harg8.read_unread _
      · iexact H7
    isplitl [H8]
    · iexists _; isplitr
      · ipureintro; exact harg9.read_unread _
      · iexact H8
    iexists _; isplitr
    · ipureintro; exact harg10.read_unread _
    · iexact H9
  isplitl [Hc]
  · iexists _; iexact Hc
  iexists _; iexact HW

end Runs

end Cert.KernelIdeal.Hand

end
-- ==== Proof.RunSteady.lean ====
/- One point of the region `KernelIdeal` that is neither one of the first four nor the last. -/
module

public import proofs.«01_k».proof.Proof.Runs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

section Runs
variable (c : Dev nD) (t : Fin cfg0.N) (arg1 : Memref sig .tc .vmem S10240x5 .f32) (harg1 : arg1.IsWhole) (arg2 : Memref sig .tc .vmem S8x16 .f32) (harg2 : arg2.IsWhole) (arg3 : Memref sig .tc .vmem S8x16 .f32) (harg3 : arg3.IsWhole) (arg4 : Memref sig .tc .vmem S4x16 .f32) (harg4 : arg4.IsWhole) (arg5 : Memref sig .tc .vmem S2x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S64x128 .f32) (harg9 : arg9.IsWhole) (arg10 : Memref sig .tc .vmem S1x128 .f32) (harg10 : arg10.IsWhole)
  (x0 : Vec F S10240x5 .f32) (x1 : Vec F S8x16 .f32) (x2 : Vec F S8x16 .f32) (x3 : Vec F S4x16 .f32) (x4 : Vec F S2x16 .f32) (x5 : Vec F S1x16 .f32) (x6 : Vec F S1x16 .f32) (x7 : Vec F S1x16 .f32) (x8 : Vec F S64x128 .f32) (x9 : Vec F S1x128 .f32)
  (G : ResBuf (F := F) c)

set_option maxHeartbeats 1000000 in
/-- A point from the fifth on, before the last: it waits for the copy four points back, then starts its own. -/
theorem run_steady (hc0 : condWait (grid0.coords t)) (hc1 : ¬condDrain (grid0.coords t)) (hG : Computes c t x0 x1 x2 x3 x4 x5 x6 x7 x8 x9 G) :
    RunsTo c t arg1 harg1 arg2 harg2 arg3 harg3 arg4 harg4 arg5 harg5 arg6 harg6 arg7 harg7 arg8 harg8 arg9 harg9 arg10 harg10 x0 x1 x2 x3 x4 x5 x6 x7 x8 x9
      iprop((∃ f, rowsAt c (Ring.bk 20 t.val) f) ∗ flight c (Ring.sl 4 t.val) (Ring.bk 20 (t.val - 4)) G)
      iprop(rowsAt c (Ring.bk 20 (t.val - 4)) G ∗ flight c (Ring.sl 4 t.val) (Ring.bk 20 t.val) G) := by
  haveI : Fact (condWait (grid0.coords t)) := ⟨hc0⟩
  haveI : Fact (¬condDrain (grid0.coords t)) := ⟨hc1⟩
  intro W K
  simp only [cc0__fused_body_eq_skeleton]; unfold cc0__fused_body_skel
  simp only [k0_part1_eq_skeleton, k0_part2_eq_skeleton, k0_part3_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨⟨%fp, Hp⟩, ⟨%ff, HF⟩⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc0 | sl_exact hc1)
  sl_step
  rw [view_landed c (rows (Ring.bk 20 t.val)).view fp _ G ?h]
  swap
  · delta run_steady.sl.dma16 run_steady.sl.HF_src_w1 run_steady.sl.r_5 run_steady.sl.r_4 run_steady.sl.r_3 run_steady.sl.r_2 run_steady.sl.r_1 run_steady.sl.r run_steady.sl.v70 run_steady.sl.v24 run_steady.sl.v23
    simp only [readAt_unread_eq]
    exact hG.trans (tile_read c (Ring.sl 4 t.val) _ (off4_eq t) _ ff _).symm
  iapply Hk
  isplitl [H0 H1 H2 H3 H4 H5 H6 H7 H8 H9]
  · isplitl [H0]
    · iexists _; isplitr
      · ipureintro; exact harg1.read_unread _
      · iexact H0
    isplitl [H1]
    · iexists _; isplitr
      · ipureintro; exact harg2.read_unread _
      · iexact H1
    isplitl [H2]
    · iexists _; isplitr
      · ipureintro; exact harg3.read_unread _
      · iexact H2
    isplitl [H3]
    · iexists _; isplitr
      · ipureintro; exact harg4.read_unread _
      · iexact H3
    isplitl [H4]
    · iexists _; isplitr
      · ipureintro; exact harg5.read_unread _
      · iexact H4
    isplitl [H5]
    · iexists _; isplitr
      · ipureintro; exact harg6.read_unread _
      · iexact H5
    isplitl [H6]
    · iexists _; isplitr
      · ipureintro; exact harg7.read_unread _
      · iexact H6
    isplitl [H7]
    · iexists _; isplitr
      · ipureintro; exact harg8.read_unread _
      · iexact H7
    isplitl [H8]
    · iexists _; isplitr
      · ipureintro; exact harg9.read_unread _
      · iexact H8
    iexists _; isplitr
    · ipureintro; exact harg10.read_unread _
    · iexact H9
  isplitl [HF_dst HF]
  · isplitl [HF_dst]; · iexact HF_dst
    iexists _; iexact HF
  iexists _; iexact HW

end Runs

end Cert.KernelIdeal.Hand

end
-- ==== Proof.RunLast.lean ====
/- The last point of the region `KernelIdeal`. -/
module

public import proofs.«01_k».proof.Proof.Runs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

section Runs
variable (c : Dev nD) (t : Fin cfg0.N) (arg1 : Memref sig .tc .vmem S10240x5 .f32) (harg1 : arg1.IsWhole) (arg2 : Memref sig .tc .vmem S8x16 .f32) (harg2 : arg2.IsWhole) (arg3 : Memref sig .tc .vmem S8x16 .f32) (harg3 : arg3.IsWhole) (arg4 : Memref sig .tc .vmem S4x16 .f32) (harg4 : arg4.IsWhole) (arg5 : Memref sig .tc .vmem S2x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S64x128 .f32) (harg9 : arg9.IsWhole) (arg10 : Memref sig .tc .vmem S1x128 .f32) (harg10 : arg10.IsWhole)
  (x0 : Vec F S10240x5 .f32) (x1 : Vec F S8x16 .f32) (x2 : Vec F S8x16 .f32) (x3 : Vec F S4x16 .f32) (x4 : Vec F S2x16 .f32) (x5 : Vec F S1x16 .f32) (x6 : Vec F S1x16 .f32) (x7 : Vec F S1x16 .f32) (x8 : Vec F S64x128 .f32) (x9 : Vec F S1x128 .f32)
  (G : ResBuf (F := F) c)

set_option maxHeartbeats 1000000 in
/-- The last point: it waits for the copy four points back, starts its own, and waits for the four copies under way. -/
theorem run_last (hc0 : condWait (grid0.coords t)) (hc1 : condDrain (grid0.coords t)) (hG : Computes c t x0 x1 x2 x3 x4 x5 x6 x7 x8 x9 G) :
    RunsTo c t arg1 harg1 arg2 harg2 arg3 harg3 arg4 harg4 arg5 harg5 arg6 harg6 arg7 harg7 arg8 harg8 arg9 harg9 arg10 harg10 x0 x1 x2 x3 x4 x5 x6 x7 x8 x9
      iprop((∃ f, rowsAt c (Ring.bk 20 t.val) f) ∗ flight c (Ring.sl 4 t.val) (Ring.bk 20 (t.val - 4)) G ∗ flight c (Ring.sl 4 (t.val + 1)) (Ring.bk 20 (t.val - 3)) G ∗ flight c (Ring.sl 4 (t.val + 2)) (Ring.bk 20 (t.val - 2)) G ∗ flight c (Ring.sl 4 (t.val + 3)) (Ring.bk 20 (t.val - 1)) G)
      iprop((rowsAt c (Ring.bk 20 (t.val - 4)) G ∗ rowsAt c (Ring.bk 20 (t.val - 3)) G ∗ rowsAt c (Ring.bk 20 (t.val - 2)) G ∗ rowsAt c (Ring.bk 20 (t.val - 1)) G ∗ rowsAt c (Ring.bk 20 t.val) G)
        ∗ (cellZero c (Ring.sl 4 t.val) ∗ cellZero c (Ring.sl 4 (t.val + 1)) ∗ cellZero c (Ring.sl 4 (t.val + 2)) ∗ cellZero c (Ring.sl 4 (t.val + 3)))
        ∗ (∃ e, tileAt c (Ring.sl 4 t.val) e) ∗ (∃ e, tileAt c (Ring.sl 4 (t.val + 1)) e) ∗ (∃ e, tileAt c (Ring.sl 4 (t.val + 2)) e) ∗ (∃ e, tileAt c (Ring.sl 4 (t.val + 3)) e)) := by
  haveI : Fact (condWait (grid0.coords t)) := ⟨hc0⟩
  haveI : Fact (condDrain (grid0.coords t)) := ⟨hc1⟩
  intro W K
  simp only [cc0__fused_body_eq_skeleton]; unfold cc0__fused_body_skel
  simp only [k0_part1_eq_skeleton, k0_part2_eq_skeleton, k0_part3_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨⟨%fp, Hp⟩, ⟨%ff, HF⟩, ⟨%f11, HF1⟩, ⟨%f12, HF2⟩, ⟨%f13, HF3⟩⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc0 | sl_exact hc1)
  sl_step
  have hd : View.read (Elt F) (rows (Ring.bk 20 t.val)).view G = run_last.sl.dma16 c t arg1 harg1 arg2 harg2 arg3 harg3 arg4 harg4 arg5 harg5 arg6 harg6 arg7 harg7 arg8 harg8 arg9 harg9 arg10 harg10 x0 x1 x2 x3 x4 x5 x6 x7 x8 x9 ff := by
    delta run_last.sl.dma16 run_last.sl.HF_src_w1 run_last.sl.r_5 run_last.sl.r_4 run_last.sl.r_3 run_last.sl.r_2 run_last.sl.r_1 run_last.sl.r run_last.sl.v70 run_last.sl.v24 run_last.sl.v23
    simp only [readAt_unread_eq]
    exact hG.trans (tile_read c (Ring.sl 4 t.val) _ (off4_eq t) _ ff _).symm
  iapply Hk
  isplitl [H0 H1 H2 H3 H4 H5 H6 H7 H8 H9]
  · isplitl [H0]
    · iexists _; isplitr
      · ipureintro; exact harg1.read_unread _
      · iexact H0
    isplitl [H1]
    · iexists _; isplitr
      · ipureintro; exact harg2.read_unread _
      · iexact H1
    isplitl [H2]
    · iexists _; isplitr
      · ipureintro; exact harg3.read_unread _
      · iexact H2
    isplitl [H3]
    · iexists _; isplitr
      · ipureintro; exact harg4.read_unread _
      · iexact H3
    isplitl [H4]
    · iexists _; isplitr
      · ipureintro; exact harg5.read_unread _
      · iexact H4
    isplitl [H5]
    · iexists _; isplitr
      · ipureintro; exact harg6.read_unread _
      · iexact H5
    isplitl [H6]
    · iexists _; isplitr
      · ipureintro; exact harg7.read_unread _
      · iexact H6
    isplitl [H7]
    · iexists _; isplitr
      · ipureintro; exact harg8.read_unread _
      · iexact H7
    isplitl [H8]
    · iexists _; isplitr
      · ipureintro; exact harg9.read_unread _
      · iexact H8
    iexists _; isplitr
    · ipureintro; exact harg10.read_unread _
    · iexact H9
  isplitl [HF_dst HF1_dst HF2_dst HF3_dst Hp HF HF1 HF2 HF3 HF_src HF1_src HF2_src HF3_src]
  · isplitl [HF_dst HF1_dst HF2_dst HF3_dst Hp]
    · isplitl [HF_dst]; · iexact HF_dst
      isplitl [HF1_dst]; · iexact HF1_dst
      isplitl [HF2_dst]; · iexact HF2_dst
      isplitl [HF3_dst]; · iexact HF3_dst
      iapply (Entails.of_eq (view_landed c (rows (Ring.bk 20 t.val)).view fp _ G hd)); iexact Hp
    isplitl [HF HF1 HF2 HF3]
    · isplitl [HF]; · iexact HF
      isplitl [HF1]; · iexact HF1
      isplitl [HF2]; · iexact HF2
      iexact HF3
    isplitl [HF_src]; · iexists _; iexact HF_src
    isplitl [HF1_src]; · iexists _; iexact HF1_src
    isplitl [HF2_src]; · iexists _; iexact HF2_src
    iexists _; iexact HF3_src
  iexists _; iexact HW

end Runs

end Cert.KernelIdeal.Hand

end
-- ==== Proof.Invariant.lean ====
/- The write ring of the region `KernelIdeal` before each point: four tiles, each copy waited for four points after it
   was started. The first section is about any ring of four groups; the second is about this one. -/
module

public import proofs.«01_k».proof.Proof.Step

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

/-! ## A ring of four groups, each copy waited for four steps later -/

section Four
variable {M : Type _} [URA M] {NB : ℕ} [NeZero NB]
  (free : Fin 4 → sProp M) (infl : Fin 4 → Fin NB → sProp M) (ahead behind : Fin NB → sProp M)

omit [NeZero NB] in
/-- A family over the four groups, one by one. -/
theorem four_eq (Φ : Fin 4 → sProp M) : bigSep Finset.univ Φ = iprop(Φ 0 ∗ Φ 1 ∗ Φ 2 ∗ Φ 3) :=
  BI.bigSep_univ_eq_bigSepL [0, 1, 2, 3] (by decide) (by decide) Φ

/-- The three groups that step `k` does not touch, as they stand before it and after it. -/
def carried (k : ℕ) : sProp M :=
  iprop(Ring.roleB (NB := NB) 4 free infl (k + 1) 0 ∗ Ring.roleB (NB := NB) 4 free infl (k + 1) 1 ∗ Ring.roleB (NB := NB) 4 free infl (k + 1) 2)

/-- From the fourth step on, the group whose turn comes `j` steps later has its copy of four steps before under way. -/
theorem role_infl (k : ℕ) (j : Fin 4) (h : 4 ≤ k + j.val) : Ring.roleB (NB := NB) 4 free infl k j = infl (Ring.sl 4 (k + j.val)) (Ring.bk NB (k + j.val - 4)) :=
  Ring.roleB_of_infl _ _ _ _ _ ⟨h, by omega⟩
/-- Before that a group whose first turn is still to come is unused. -/
theorem role_free (k : ℕ) (j : Fin 4) (h : k + j.val < 4) : Ring.roleB (NB := NB) 4 free infl k j = free (Ring.sl 4 (k + j.val)) :=
  Ring.roleB_of_free _ _ _ _ _ (by omega)
/-- A group keeps its role from one step to the next, one place nearer to its turn. -/
theorem role_shift (k : ℕ) (j j' : Fin 4) (h : j.val = j'.val + 1) : Ring.roleB (NB := NB) 4 free infl k j = Ring.roleB (NB := NB) 4 free infl (k + 1) j' := by
  have e : k + j.val = k + 1 + j'.val := by omega
  unfold Ring.roleB
  rw [e]
  exact if_congr (by omega) rfl rfl

/-- The four groups before step `k`: the one the step uses, and the others. -/
theorem groups_here (k : ℕ) : bigSep Finset.univ (Ring.roleB (NB := NB) 4 free infl k) = iprop(Ring.roleB (NB := NB) 4 free infl k 0 ∗ carried free infl k) := by
  rw [four_eq, role_shift free infl k 1 0 rfl, role_shift free infl k 2 1 rfl, role_shift free infl k 3 2 rfl]
  rfl
/-- The four groups after step `k`: its copy is under way on the group it used. -/
theorem groups_next (k : ℕ) : bigSep Finset.univ (Ring.roleB (NB := NB) 4 free infl (k + 1)) = iprop(carried free infl k ∗ infl (Ring.sl 4 k) (Ring.bk NB k)) := by
  rw [four_eq, role_infl free infl (k + 1) 3 (by simp), show k + 1 + (3 : Fin 4).val = k + 4 from rfl, Ring.sl_add, Nat.add_sub_cancel]
  unfold carried
  have e (A B C D : sProp M) : iprop(A ∗ B ∗ C ∗ D) = iprop((A ∗ B ∗ C) ∗ D) :=
    BI.equiv_iff.mp ⟨show iprop(A ∗ B ∗ C ∗ D) ⊢ iprop((A ∗ B ∗ C) ∗ D) from by
        iintro ⟨H0, H1, H2, H3⟩
        isplitr [H3]
        · isplitl [H0]; · iexact H0
          isplitl [H1]; · iexact H1
          iexact H2
        iexact H3,
      show iprop((A ∗ B ∗ C) ∗ D) ⊢ iprop(A ∗ B ∗ C ∗ D) from by
        iintro ⟨⟨H0, H1, H2⟩, H3⟩
        isplitl [H0]; · iexact H0
        isplitl [H1]; · iexact H1
        isplitl [H2]; · iexact H2
        iexact H3⟩
  exact e _ _ _ _

/-- The ring before step `k`. -/
theorem ring_here (k : ℕ) (h : k < NB) :
    Ring.AtB 4 free infl ahead behind k
      = iprop((ahead (Ring.bk NB k) ∗ bigSep (Ring.aheadSet (k + 1)) ahead) ∗ bigSep (Ring.behindSet 4 k) behind ∗ Ring.roleB (NB := NB) 4 free infl k 0 ∗ carried free infl k) := by
  unfold Ring.AtB
  rw [Ring.aheadSet_open k h, Ring.bigSep_put (Ring.bk_not_mem_aheadSet_succ k h), groups_here]
/-- The ring after one of the first four steps, -/
theorem ring_next_boot (k : ℕ) (h : k < 4) :
    Ring.AtB 4 free infl ahead behind (k + 1)
      = iprop(bigSep (Ring.aheadSet (k + 1)) ahead ∗ bigSep (Ring.behindSet 4 k) behind ∗ carried free infl k ∗ infl (Ring.sl 4 k) (Ring.bk NB k)) := by
  unfold Ring.AtB
  rw [Ring.behindSet_boot 4 (k + 1) (by omega), Ring.behindSet_boot 4 k (by omega), groups_next]
/-- and after a later one, which waited for the copy of four steps back. -/
theorem ring_next (k : ℕ) (h4 : 4 ≤ k) (h : k < NB) :
    Ring.AtB 4 free infl ahead behind (k + 1)
      = iprop(bigSep (Ring.aheadSet (k + 1)) ahead ∗ (behind (Ring.bk NB (k - 4)) ∗ bigSep (Ring.behindSet 4 k) behind) ∗ carried free infl k ∗ infl (Ring.sl 4 k) (Ring.bk NB k)) := by
  unfold Ring.AtB
  rw [Ring.behindSet_close 4 k h4 h, Ring.bigSep_put (Ring.bk_not_mem_behindSet 4 k h4 h), groups_next]
/-- What is carried over the last step is the copies of the three steps before it. -/
theorem carried_late (k : ℕ) (h : 4 ≤ k) :
    carried (NB := NB) free infl k = iprop(infl (Ring.sl 4 (k + 1)) (Ring.bk NB (k - 3)) ∗ infl (Ring.sl 4 (k + 2)) (Ring.bk NB (k - 2)) ∗ infl (Ring.sl 4 (k + 3)) (Ring.bk NB (k - 1))) := by
  unfold carried
  rw [role_infl free infl (k + 1) 0 (by simp; omega), role_infl free infl (k + 1) 1 (by simp; omega), role_infl free infl (k + 1) 2 (by simp; omega),
    show k + 1 + (0 : Fin 4).val = k + 1 from rfl, show k + 1 + (1 : Fin 4).val = k + 2 from rfl, show k + 1 + (2 : Fin 4).val = k + 3 from rfl,
    show k + 1 - 4 = k - 3 by omega, show k + 2 - 4 = k - 2 by omega, show k + 3 - 4 = k - 1 by omega]
/-- Every group, starting from step `k`'s. -/
theorem four_from (Φ : Fin 4 → sProp M) (k : ℕ) (h : Ring.sl 4 k = 3 ∧ Ring.sl 4 (k + 1) = 0 ∧ Ring.sl 4 (k + 2) = 1 ∧ Ring.sl 4 (k + 3) = 2) :
    iprop(Φ (Ring.sl 4 k) ∗ Φ (Ring.sl 4 (k + 1)) ∗ Φ (Ring.sl 4 (k + 2)) ∗ Φ (Ring.sl 4 (k + 3))) ⊢ bigSep Finset.univ Φ := by
  rw [h.1, h.2.1, h.2.2.1, h.2.2.2, four_eq]
  iintro ⟨H3, H0, H1, H2⟩
  isplitl [H0]; · iexact H0
  isplitl [H1]; · iexact H1
  isplitl [H2]; · iexact H2
  iexact H3
/-- Every step: those behind before the last step, the last step, and the four before it. -/
theorem steps_end (k : ℕ) (h4 : 4 ≤ k) (h : k + 1 = NB) :
    iprop(bigSep (Ring.behindSet (NB := NB) 4 k) behind ∗ behind (Ring.bk NB (k - 4)) ∗ behind (Ring.bk NB (k - 3)) ∗ behind (Ring.bk NB (k - 2)) ∗ behind (Ring.bk NB (k - 1)) ∗ behind (Ring.bk NB k))
      ⊢ bigSep Finset.univ behind := by
  have b0 := Ring.bk_val (NB := NB) (show k < NB by omega)
  have b1 := Ring.bk_val (NB := NB) (show k - 1 < NB by omega)
  have b2 := Ring.bk_val (NB := NB) (show k - 2 < NB by omega)
  have b3 := Ring.bk_val (NB := NB) (show k - 3 < NB by omega)
  have b4 := Ring.bk_val (NB := NB) (show k - 4 < NB by omega)
  have e : (Finset.univ : Finset (Fin NB)) = insert (Ring.bk NB (k - 4)) (insert (Ring.bk NB (k - 3)) (insert (Ring.bk NB (k - 2)) (insert (Ring.bk NB (k - 1)) (insert (Ring.bk NB k) (Ring.behindSet 4 k))))) := by
    ext u
    simp only [Finset.mem_univ, Finset.mem_insert, Ring.mem_behindSet, true_iff, Fin.ext_iff, b0, b1, b2, b3, b4]
    have := u.isLt; omega
  have n0 : Ring.bk NB k ∉ Ring.behindSet (NB := NB) 4 k := by rw [Ring.mem_behindSet, b0]; omega
  have n1 : Ring.bk NB (k - 1) ∉ insert (Ring.bk NB k) (Ring.behindSet (NB := NB) 4 k) := by
    simp only [Finset.mem_insert, Ring.mem_behindSet, Fin.ext_iff, b0, b1]; omega
  have n2 : Ring.bk NB (k - 2) ∉ insert (Ring.bk NB (k - 1)) (insert (Ring.bk NB k) (Ring.behindSet (NB := NB) 4 k)) := by
    simp only [Finset.mem_insert, Ring.mem_behindSet, Fin.ext_iff, b0, b1, b2]; omega
  have n3 : Ring.bk NB (k - 3) ∉ insert (Ring.bk NB (k - 2)) (insert (Ring.bk NB (k - 1)) (insert (Ring.bk NB k) (Ring.behindSet (NB := NB) 4 k))) := by
    simp only [Finset.mem_insert, Ring.mem_behindSet, Fin.ext_iff, b0, b1, b2, b3]; omega
  have n4 : Ring.bk NB (k - 4) ∉ insert (Ring.bk NB (k - 3)) (insert (Ring.bk NB (k - 2)) (insert (Ring.bk NB (k - 1)) (insert (Ring.bk NB k) (Ring.behindSet (NB := NB) 4 k)))) := by
    simp only [Finset.mem_insert, Ring.mem_behindSet, Fin.ext_iff, b0, b1, b2, b3, b4]; omega
  rw [e, Ring.bigSep_put n4, Ring.bigSep_put n3, Ring.bigSep_put n2, Ring.bigSep_put n1, Ring.bigSep_put n0]
  iintro ⟨HB, H4, H3, H2, H1, H0⟩
  isplitl [H4]; · iexact H4
  isplitl [H3]; · iexact H3
  isplitl [H2]; · iexact H2
  isplitl [H1]; · iexact H1
  isplitl [H0]; · iexact H0
  iexact HB

end Four

/-! ## A buffer and four pieces of it -/

section Buffer
variable {ℓ : Loc nD τ sig} (J : Fin 4 → Finset (Idx ℓ)) (hd : ∀ i i', i ≠ i' → Disjoint (J i) (J i'))

/-- Each of the four pieces at some contents. -/
def fourSome : sProp 𝕄 :=
  iprop((∃ f, ℓ ↦[J 0]{fullShare} f) ∗ (∃ f, ℓ ↦[J 1]{fullShare} f) ∗ (∃ f, ℓ ↦[J 2]{fullShare} f) ∗ (∃ f, ℓ ↦[J 3]{fullShare} f))
/-- The elements of the buffer outside the four pieces, at some contents. -/
def spareOf : sProp 𝕄 := iprop(∃ f, ℓ ↦[Finset.univ \ Finset.univ.biUnion J]{fullShare} f)

include hd in
/-- A buffer is four disjoint pieces and the elements outside them, -/
theorem buf_split : (iprop(∃ f, ℓ ↦{fullShare} f) : sProp 𝕄) ⊢ iprop(fourSome (F := F) J ∗ spareOf (F := F) J) := by
  refine (Ring.pieces_split_spare J hd (fun g f => ℓ ↦[J g]{fullShare} f) (fun _ _ => rfl)).trans ?_
  rw [four_eq]; exact .rfl
include hd in
/-- and they make it up again. -/
theorem buf_join : iprop(fourSome (F := F) J ∗ spareOf (F := F) J) ⊢ (iprop(∃ f, ℓ ↦{fullShare} f) : sProp 𝕄) := by
  refine .trans ?_ (Ring.pieces_join_spare J hd (fun g f => ℓ ↦[J g]{fullShare} f) (fun _ _ => rfl))
  rw [four_eq]; exact .rfl

end Buffer

/-! ## The ring of the region -/

section Mine
variable (c : Dev nD) (G : ResBuf (F := F) c)

/-- Tile and cell `g` unused. -/
abbrev freeR (g : Fin 4) : sProp 𝕄 := iprop(cellZero c g ∗ ∃ e, tileAt c g e)
/-- Row block `u` not yet written: held at some contents. -/
abbrev aheadR (u : Fin 20) : sProp 𝕄 := iprop(∃ f, rowsAt c u f)
/-- Row block `u` written: held at the final contents. -/
abbrev behindR (u : Fin 20) : sProp 𝕄 := rowsAt c u G
/-- The ring before point `k`. -/
def ringAt (k : ℕ) : sProp 𝕄 := Ring.AtBΦ 4 (freeR c) (fun g u => flight c g u G) (aheadR c) (behindR c G) k
/-- The elements of the scratch buffer outside the four tiles. -/
def spare : sProp 𝕄 := spareOf (F := F) (ℓ := (c : Thread nD τ).loc cc0_scratch0) tileSet

/-- Tile `g` held at some contents, said of the buffer's elements. -/
theorem tile_some (g : Fin 4) : (iprop(∃ e, tileAt (F := F) c g e) : sProp 𝕄) = iprop(∃ f : ScrBuf (F := F) c, (c : Thread nD τ).loc cc0_scratch0 ↦[tileSet g]{fullShare} f) := by
  rw [← tile_set]; rfl
/-- The scratch buffer is its four tiles and its spare elements, -/
theorem scr_split :
    (iprop(∃ e : ScrBuf (F := F) c, (c : Thread nD τ).loc cc0_scratch0 ↦{fullShare} e) : sProp 𝕄)
      ⊢ iprop(((∃ e, tileAt (F := F) c 0 e) ∗ (∃ e, tileAt (F := F) c 1 e) ∗ (∃ e, tileAt (F := F) c 2 e) ∗ (∃ e, tileAt (F := F) c 3 e)) ∗ spare (F := F) c) := by
  have h := buf_split (F := F) (ℓ := (c : Thread nD τ).loc cc0_scratch0) tileSet tiles_disjoint
  unfold fourSome at h
  rw [← tile_some c 0, ← tile_some c 1, ← tile_some c 2, ← tile_some c 3] at h
  exact h
/-- and they make it up again. -/
theorem scr_join :
    iprop(((∃ e, tileAt (F := F) c 0 e) ∗ (∃ e, tileAt (F := F) c 1 e) ∗ (∃ e, tileAt (F := F) c 2 e) ∗ (∃ e, tileAt (F := F) c 3 e)) ∗ spare (F := F) c)
      ⊢ (iprop(∃ e : ScrBuf (F := F) c, (c : Thread nD τ).loc cc0_scratch0 ↦{fullShare} e) : sProp 𝕄) := by
  have h := buf_join (F := F) (ℓ := (c : Thread nD τ).loc cc0_scratch0) tileSet tiles_disjoint
  unfold fourSome at h
  rw [← tile_some c 0, ← tile_some c 1, ← tile_some c 2, ← tile_some c 3] at h
  exact h
/-- Row block `u` held, said of the buffer's elements. -/
theorem rowsAt_eq (u : Fin 20) (f : ResBuf (F := F) c) : rowsAt c u f = ((c : Thread nD τ).loc main_v8 ↦[rowsSet u]{fullShare} f : sProp 𝕄) := by
  unfold rowsAt; rw [rows_set]; rfl

/-- The row blocks at `f` are the whole result at `f`. -/
theorem rows_all (f : ResBuf (F := F) c) : bigSep Finset.univ (fun u => rowsAt c u f) = ((c : Thread nD τ).loc main_v8 ↦{fullShare} f : sProp 𝕄) := by
  have h := Ring.pointsTo_blocks (Ix := Unit) (Name := ℕ) (U := Pipeline.UD sig nD τ) (Lvl := ℕ) (q := fullShare) (ℓ := (c : Thread nD τ).loc main_v8) rowsSet rows_disjoint rows_cover f
  rw [h]
  exact BI.bigSep_congr fun u _ => rowsAt_eq c u f
/-- Row blocks held at known contents are row blocks held at some contents. -/
theorem rows_some (f : ResBuf (F := F) c) : (bigSep Finset.univ (fun u => rowsAt c u f) : sProp 𝕄) ⊢ bigSep Finset.univ (aheadR (F := F) c) :=
  BI.bigSep_mono fun u _ => show (rowsAt c u f : sProp 𝕄) ⊢ iprop(∃ f, rowsAt c u f) from by iintro H; iexists f; iexact H

/-- What the launch gives makes up the ring before the first point. -/
theorem ring_in (f : ResBuf (F := F) c) :
    iprop((∃ e : ScrBuf (F := F) c, (c : Thread nD τ).loc cc0_scratch0 ↦{fullShare} e) ∗ (cellZero c 0 ∗ cellZero c 1 ∗ cellZero c 2 ∗ cellZero c 3) ∗ ((c : Thread nD τ).loc main_v8 ↦{fullShare} f))
      ⊢ (iprop(ringAt c G 0 ∗ spare c) : sProp 𝕄) := by
  unfold ringAt
  rw [Ring.AtBΦ_lt _ _ _ _ _ 0 (by omega), Ring.AtB_zero]
  unfold Ring.AtB₀
  iintro ⟨HS, ⟨Hc0, Hc1, Hc2, Hc3⟩, HO⟩
  ihave HT := (scr_split c) $$ HS
  icases HT with ⟨⟨H0, H1, H2, H3⟩, HSp⟩
  ihave HR := (Entails.of_eq (rows_all c f).symm) $$ HO
  isplitr [HSp]
  · isplitl [HR]
    · iapply (rows_some c f)
      iexact HR
    rw [four_eq]
    isplitl [Hc0 H0]
    · isplitl [Hc0]; · iexact Hc0
      iexact H0
    isplitl [Hc1 H1]
    · isplitl [Hc1]; · iexact Hc1
      iexact H1
    isplitl [Hc2 H2]
    · isplitl [Hc2]; · iexact Hc2
      iexact H2
    isplitl [Hc3]; · iexact Hc3
    iexact H3
  iexact HSp

/-- After the last point the ring gives back the scratch buffer, the cells and the result at `G`. -/
theorem ring_out :
    iprop(ringAt c G 20 ∗ spare c)
      ⊢ (iprop((∃ e : ScrBuf (F := F) c, (c : Thread nD τ).loc cc0_scratch0 ↦{fullShare} e) ∗ (cellZero c 0 ∗ cellZero c 1 ∗ cellZero c 2 ∗ cellZero c 3) ∗ ((c : Thread nD τ).loc main_v8 ↦{fullShare} G)) : sProp 𝕄) := by
  unfold ringAt
  rw [Ring.AtBΦ_end _ _ _ _ _ 20 rfl]
  unfold Ring.AtBEnd
  rw [four_eq]
  iintro ⟨⟨HR, ⟨⟨Hc0, H0⟩, ⟨Hc1, H1⟩, ⟨Hc2, H2⟩, ⟨Hc3, H3⟩⟩⟩, HSp⟩
  isplitl [H0 H1 H2 H3 HSp]
  · iapply (scr_join c)
    isplitr [HSp]
    · isplitl [H0]; · iexact H0
      isplitl [H1]; · iexact H1
      isplitl [H2]; · iexact H2
      iexact H3
    iexact HSp
  isplitl [Hc0 Hc1 Hc2 Hc3]
  · isplitl [Hc0]; · iexact Hc0
    isplitl [Hc1]; · iexact Hc1
    isplitl [Hc2]; · iexact Hc2
    iexact Hc3
  iapply (Entails.of_eq (rows_all c G))
  iexact HR

end Mine

end Cert.KernelIdeal.Hand

end
-- ==== Proof.Launch.lean ====
/- The launch of `KernelIdeal`: what the result holds, the proof data of the region, its body at every point, and the run of
   the whole program. -/
module

public import proofs.«01_k».proof.Proof.RunBoot
public import proofs.«01_k».proof.Proof.RunSteady
public import proofs.«01_k».proof.Proof.RunLast
public import proofs.«01_k».proof.Proof.Invariant
public import proofs.«01_k».proof.Proof.Gen.KernelIdeal.Frame
public import Idealize.ShloMosaic.Lib.Pipeline.FrameSuffixV
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the result holds -/

/-- The block that point `t` computes from its windows' blocks. -/
def blockAt (c : Dev nD) (t : Fin cfg0.N) : FVec F S1x10240x128 .f32 :=
  stepOut (iblk m c 0 t) (X0_1 m c t) (X0_2 m c t) (iblk m c 3 t) (iblk m c 4 t) (iblk m c 5 t) (iblk m c 6 t) (iblk m c 7 t) (iblk m c 8 t) (iblk m c 9 t)
/-- The grid point that computes row `i 0`, and the row's place in that point's block. -/
def pointOf (i : S204800x128.Idx) : Fin cfg0.N := ⟨(i 0).val / 10240, by have h : (i 0).val < 204800 := (i 0).isLt; rw [show cfg0.N = 20 from N_0]; omega⟩
/-- Where an element of the result lies in its point's block: the row's place there, and the lane. -/
def placeOf (i : S204800x128.Idx) : S10240x128.Idx :=
  fun a => match a with
    | ⟨0, _⟩ => ⟨(i 0).val % 10240, Nat.mod_lt _ (by decide)⟩
    | ⟨1, _⟩ => ⟨(i 1).val, (i 1).isLt⟩
/-- The result when the region ends: each row is the row of the block of its point. -/
def outG (c : Dev nD) : ResBuf (F := F) c := fun i => flat (blockAt m c (pointOf i)) (placeOf i)

/-- Where element `j` of row block `u` lies in the result. -/
def rowEmb (u : Fin 20) (j : S10240x128.Idx) : S204800x128.Idx := (rows u).view.emb j
/-- Row `j` of row block `u` is row `10240 * u + j` of the result; -/
theorem rowEmb_0 (u : Fin 20) (j : S10240x128.Idx) : (rowEmb u j 0).val = 10240 * u.val + (j 0).val := by
  have h : (rowEmb u j 0).val = 10240 * u.val + 1 * (j 0).val := rfl
  omega
/-- its lanes are the same. -/
theorem rowEmb_1 (u : Fin 20) (j : S10240x128.Idx) : (rowEmb u j 1).val = (j 1).val := by
  have h : (rowEmb u j 1).val = 0 + 1 * (j 1).val := rfl
  omega

/-- On row block `t` the result is the block of point `t`. -/
theorem computes (c : Dev nD) (t : Fin cfg0.N) : Computes c t (iblk m c 0 t) (X0_1 m c t) (X0_2 m c t) (iblk m c 3 t) (iblk m c 4 t) (iblk m c 5 t) (iblk m c 6 t) (iblk m c 7 t) (iblk m c 8 t) (iblk m c 9 t) (outG m c) := by
  have hN : t.val < 20 := lt_of_lt_of_eq t.isLt (show cfg0.N = 20 from N_0)
  have hu : (Ring.bk 20 t.val).val = t.val := Ring.bk_val hN
  show _ = flat (blockAt m c t)
  funext j
  have h0 : (j 0).val < 10240 := (j 0).isLt
  have e0 := rowEmb_0 (Ring.bk 20 t.val) j
  have e1 := rowEmb_1 (Ring.bk 20 t.val) j
  rw [hu] at e0
  have ep : pointOf (rowEmb (Ring.bk 20 t.val) j) = t := Fin.ext (by simp only [pointOf, e0]; omega)
  have ej : placeOf (rowEmb (Ring.bk 20 t.val) j) = j := by
    funext a
    match a with
    | ⟨0, _⟩ => exact Fin.ext (show (rowEmb (Ring.bk 20 t.val) j 0).val % 10240 = (j 0).val by rw [e0]; omega)
    | ⟨1, _⟩ => exact Fin.ext e1
  show flat (blockAt m c (pointOf (rowEmb (Ring.bk 20 t.val) j))) (placeOf (rowEmb (Ring.bk 20 t.val) j)) = _
  rw [ep, ej]

/-! ## The proof data -/

/-- The region before point `k`: its write ring, and the scratch buffer's elements outside the tiles. -/
def inv (c : Dev nD) (k : ℕ) : sProp 𝕄 := iprop(ringAt c (outG m c) k ∗ spare (F := F) c)

/-- The region's proof data on core `c`: its arrays as it finds them, each window's block left as it was, the ring. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ t := inv m c t.val
  q _ := fullShare
  owed _ := 0

/-- The proof data's arrays are the buffers as the region finds them. -/
theorem A_eq (c : Dev nD) (w : Fin cfg0.W) : (dats m 0 c).A w = V m c (Pipeline.arrRef spec0 w) := by dsimp only [dats]
/-- Before point `t` the ring is the one of step `t`; -/
theorem inv_here (c : Dev nD) (t : Fin cfg0.N) : (dats m 0 c).Φ t.castSucc = inv m c t.val := by
  dsimp only [dats]; simp only [Fin.val_castSucc]
/-- after it, the one of step `t + 1`. -/
theorem inv_next (c : Dev nD) (t : Fin cfg0.N) : (dats m 0 c).Φ t.succ = inv m c (t.val + 1) := by
  dsimp only [dats]; simp only [Fin.val_succ]

/-! What window `w`'s buffer holds when the body runs at `t`, and after it: its block. -/

/-- After the body window 0's buffer holds its block, and so for the other windows below. -/
theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
/-- Before the body window 0's buffer holds its block, and so for the other windows below. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = X0_1 m c t :=
  ((dats m 0 c).before_in_eq_fetched 1 rfl (fun _ => rfl)
      (fun t t' h => funext fun a => congrArg (fun n => Pipeline.Clip.of n ((cfg0.win 1).size a) (S100001x16.size a)) (congrFun h a))
      (fun t => by rw [after_1]; unfold X0_1; rw [Pipeline.Window.cut_fill]; unfold Dat.blockOf iblk; rw [A_eq]) t d).trans
    (by unfold Dat.fetched X0_1; rw [fill0_1 t d dflt0_1]; unfold Dat.blockOf iblk; rw [A_eq])
theorem before_2 (c : Dev nD) (t : Fin cfg0.N) (d) : (dats m 0 c).before 2 t d = X0_2 m c t :=
  ((dats m 0 c).before_in_eq_fetched 2 rfl (fun _ => rfl)
      (fun t t' h => funext fun a => congrArg (fun n => Pipeline.Clip.of n ((cfg0.win 2).size a) (S9x16.size a)) (congrFun h a))
      (fun t => by rw [after_2]; unfold X0_2; rw [Pipeline.Window.cut_fill]; unfold Dat.blockOf iblk; rw [A_eq]) t d).trans
    (by unfold Dat.fetched X0_2; rw [fill0_2 t d dflt0_2]; unfold Dat.blockOf iblk; rw [A_eq])
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-! ## The body at a point -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
/-- What the body leaves at point `t`: the ring of the next step, and each window's buffer as it was. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- A run of the body at `t` from `R` to `R'` serves the region's obligation there, when the invariant is `R` beside some `X`
    before the point and `R'` beside the same `X` after it. -/
theorem sound_of (c : Dev nD) (t : Fin cfg0.N) (R R' X : sProp 𝕄)
    (hrun : RunsTo c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (iblk m c 0 t) (X0_1 m c t) (X0_2 m c t) (iblk m c 3 t) (iblk m c 4 t) (iblk m c 5 t) (iblk m c 6 t) (iblk m c 7 t) (iblk m c 8 t) (iblk m c 9 t) R R')
    (hpre : inv m c t.val ⊢ iprop(R ∗ X)) (hpost : iprop(R' ∗ X) ⊢ inv m c (t.val + 1)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [after_0, after_1, after_2, after_3, after_4, after_5, after_6, after_7, after_8, after_9]
  rw [inv_here m c t, inv_next m c t]
  unfold Dat.owesAt Pipeline.owesWithin
  rw [show (dats m 0 c).owed t.castSucc = 0 from rfl, show (dats m 0 c).owed t.succ = 0 from rfl]
  iintro ⟨HI, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HJ := hpre $$ HI
  icases HJ with ⟨HR, HX⟩
  iapply (hrun W _)
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HR]; · iexact HR
  isplitl [HW]; · iexact HW
  iintro ⟨⟨H0, H1, H2, H3, H4, H5, H6, H7, H8, H9⟩, HR, ⟨%W', HW'⟩⟩
  isplitl [HR HX]
  · iapply hpost
    isplitl [HR]; · iexact HR
    iexact HX
  isplitl [HW']
  · iexists W'
    isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The region's obligation at each of the first four points, -/
theorem sound_boot (c : Dev nD) (t : Fin cfg0.N) (h4 : t.val < 4) :
    bodyPre m c t ⊢ wp frame (wpE (defs₀ (F := F)) Variants.none c none) Set.univ (bodyAt0 t) (fun _ => bodyPost m c t) := by
  refine sound_of m c t _ _ iprop(bigSep (Ring.aheadSet (t.val + 1)) (aheadR c) ∗ bigSep (Ring.behindSet 4 t.val) (behindR c (outG m c)) ∗ carried (NB := 20) (freeR c) (fun g u => flight c g u (outG m c)) t.val ∗ spare (F := F) c)
    (run_boot c t _ _ _ _ _ _ _ _ _ _ _ _ _ _ _ _ _ _ _ _ _ _ _ _ _ _ _ _ _ _ (outG m c) (fun h => absurd ((condWait_iff t).mp h) (by omega)) (fun h => absurd ((condDrain_iff t).mp h) (by omega)) (computes m c t)) ?_ ?_
  · unfold inv ringAt
    rw [Ring.AtBΦ_lt _ _ _ _ _ _ (show t.val < 20 by omega), ring_here _ _ _ _ _ (show t.val < 20 by omega), role_free _ _ _ 0 (by simpa using h4)]
    iintro ⟨⟨⟨HA, HAs⟩, HBs, ⟨HC, HT⟩, HK⟩, HS⟩
    isplitl [HA HC HT]
    · isplitl [HA]; · iexact HA
      isplitl [HC]; · iexact HC
      iexact HT
    isplitl [HAs]; · iexact HAs
    isplitl [HBs]; · iexact HBs
    isplitl [HK]; · iexact HK
    iexact HS
  · unfold inv ringAt
    rw [Ring.AtBΦ_lt _ _ _ _ _ _ (show t.val + 1 < 20 by omega), ring_next_boot _ _ _ _ _ h4]
    iintro ⟨HF, HAs, HBs, HK, HS⟩
    isplitr [HS]
    · isplitl [HAs]; · iexact HAs
      isplitl [HBs]; · iexact HBs
      isplitl [HK]; · iexact HK
      iexact HF
    iexact HS

/-- at each later point but the last, -/
theorem sound_steady (c : Dev nD) (t : Fin cfg0.N) (h4 : 4 ≤ t.val) (h19 : t.val < 19) :
    bodyPre m c t ⊢ wp frame (wpE (defs₀ (F := F)) Variants.none c none) Set.univ (bodyAt0 t) (fun _ => bodyPost m c t) := by
  refine sound_of m c t _ _ iprop(bigSep (Ring.aheadSet (t.val + 1)) (aheadR c) ∗ bigSep (Ring.behindSet 4 t.val) (behindR c (outG m c)) ∗ carried (NB := 20) (freeR c) (fun g u => flight c g u (outG m c)) t.val ∗ spare (F := F) c)
    (run_steady c t _ _ _ _ _ _ _ _ _ _ _ _ _ _ _ _ _ _ _ _ _ _ _ _ _ _ _ _ _ _ (outG m c) ((condWait_iff t).mpr h4) (fun h => absurd ((condDrain_iff t).mp h) (by omega)) (computes m c t)) ?_ ?_
  · unfold inv ringAt
    rw [Ring.AtBΦ_lt _ _ _ _ _ _ (show t.val < 20 by omega), ring_here _ _ _ _ _ (show t.val < 20 by omega), role_infl _ _ _ 0 (by simpa using h4)]
    iintro ⟨⟨⟨HA, HAs⟩, HBs, HF, HK⟩, HS⟩
    isplitl [HA HF]
    · isplitl [HA]; · iexact HA
      iexact HF
    isplitl [HAs]; · iexact HAs
    isplitl [HBs]; · iexact HBs
    isplitl [HK]; · iexact HK
    iexact HS
  · unfold inv ringAt
    rw [Ring.AtBΦ_lt _ _ _ _ _ _ (show t.val + 1 < 20 by omega), ring_next _ _ _ _ _ h4 (by omega)]
    iintro ⟨⟨HB, HF⟩, HAs, HBs, HK, HS⟩
    isplitr [HS]
    · isplitl [HAs]; · iexact HAs
      isplitl [HB HBs]
      · isplitl [HB]; · iexact HB
        iexact HBs
      isplitl [HK]; · iexact HK
      iexact HF
    iexact HS

/-- and at the last. -/
theorem sound_last (c : Dev nD) (t : Fin cfg0.N) (h19 : t.val = 19) :
    bodyPre m c t ⊢ wp frame (wpE (defs₀ (F := F)) Variants.none c none) Set.univ (bodyAt0 t) (fun _ => bodyPost m c t) := by
  refine sound_of m c t _ _ iprop(bigSep (Ring.aheadSet (t.val + 1)) (aheadR c) ∗ bigSep (Ring.behindSet 4 t.val) (behindR c (outG m c)) ∗ spare (F := F) c)
    (run_last c t _ _ _ _ _ _ _ _ _ _ _ _ _ _ _ _ _ _ _ _ _ _ _ _ _ _ _ _ _ _ (outG m c) ((condWait_iff t).mpr (by omega)) ((condDrain_iff t).mpr h19) (computes m c t)) ?_ ?_
  · unfold inv ringAt
    rw [Ring.AtBΦ_lt _ _ _ _ _ _ (show t.val < 20 by omega), ring_here _ _ _ _ _ (show t.val < 20 by omega), role_infl _ _ _ 0 (by simp; omega), carried_late _ _ _ (by omega)]
    iintro ⟨⟨⟨HA, HAs⟩, HBs, HF, ⟨HF1, HF2, HF3⟩⟩, HS⟩
    isplitl [HA HF HF1 HF2 HF3]
    · isplitl [HA]; · iexact HA
      isplitl [HF]; · iexact HF
      isplitl [HF1]; · iexact HF1
      isplitl [HF2]; · iexact HF2
      iexact HF3
    isplitl [HAs]; · iexact HAs
    isplitl [HBs]; · iexact HBs
    iexact HS
  · unfold inv ringAt
    rw [Ring.AtBΦ_end _ _ _ _ _ _ (show t.val + 1 = 20 by omega)]
    unfold Ring.AtBEnd
    iintro ⟨⟨⟨H4, H3, H2, H1, H0⟩, ⟨HC0, HC1, HC2, HC3⟩, HT0, HT1, HT2, HT3⟩, -, HBs, HS⟩
    isplitr [HS]
    · isplitl [HBs H4 H3 H2 H1 H0]
      · iapply (steps_end (behindR c (outG m c)) t.val (by omega) (by omega))
        isplitl [HBs]; · iexact HBs
        isplitl [H4]; · iexact H4
        isplitl [H3]; · iexact H3
        isplitl [H2]; · iexact H2
        isplitl [H1]; · iexact H1
        iexact H0
      iapply (four_from (freeR c) t.val (by rw [h19]; decide))
      isplitl [HC0 HT0]
      · isplitl [HC0]; · iexact HC0
        iexact HT0
      isplitl [HC1 HT1]
      · isplitl [HC1]; · iexact HC1
        iexact HT1
      isplitl [HC2 HT2]
      · isplitl [HC2]; · iexact HC2
        iexact HT2
      isplitl [HC3]; · iexact HC3
      iexact HT3
    iexact HS

/-- The body serves the region at every point: the first four, the steady ones and the last. -/
theorem sound_body (c : Dev nD) (t : Fin cfg0.N) :
    bodyPre m c t ⊢ wp frame (wpE (defs₀ (F := F)) Variants.none c none) Set.univ (bodyAt0 t) (fun _ => bodyPost m c t) := by
  have hN : t.val < 20 := lt_of_lt_of_eq t.isLt (show cfg0.N = 20 from N_0)
  by_cases h4 : t.val < 4
  · exact sound_boot m c t h4
  by_cases h19 : t.val < 19
  · exact sound_steady m c t (by omega) h19
  · exact sound_last m c t (by omega)

/-- The region's body at a point is the printed body there. -/
theorem defs₀_row (t : Fin cfg0.N) : defs₀ (F := F) .tc cfg0.body (cfg0.bodyArgs t (cfg0.slots t)) = bodyAt0 t := by
  unfold defs₀; rw [Defs.onTc_tc]
/-- The region's obligation at every point, in the form the launch takes. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Into the region and out of it -/

/-- The region's own semaphores: the four cells. The buffer its own copies write: the result. -/
abbrev osem : Fin 4 → SemLoc sig := ![SemLoc.dma 11, SemLoc.dma 12, SemLoc.dma 13, SemLoc.dma 14]
/-- Those four are the region's own semaphores: different from one another and from those of its windows. -/
theorem ownFacts : Pipeline.OwnSemFacts spec0 osem := by decide
/-- The one buffer that the body writes by its own copies: the result. -/
abbrev written : Finset (Ref sig .tc) := {main_v8}
/-- What the region leaves in the buffers it writes itself. -/
def GV (c : Dev nD) (b : Ref sig .tc) : Buf (Elt F) ((c : Thread nD τ).loc b) := if h : main_v8 = b then h ▸ outG m c else V m c b
/-- In the result it leaves the blocks of all points. -/
theorem GV_v8 (c : Dev nD) : GV m c main_v8 = outG m c := by unfold GV; rw [dif_pos rfl]

/-- The region's own semaphores at zero are the four cells at zero. -/
theorem mine_eq (c : Dev nD) : (Pipeline.ownSems0 (Ix := Unit) (Name := ℕ) (U := Pipeline.UD sig nD τ) (Lvl := ℕ) (Val := Elt F) (τ := τ) osem c : sProp 𝕄)
    = iprop(cellZero c 0 ∗ cellZero c 1 ∗ cellZero c 2 ∗ cellZero c 3) := by
  rw [Pipeline.ownSems0_eq_of_list c osem [0, 1, 2, 3] (by decide) (by decide)]
  unfold cellZero
  simp only [cellLoc_eq]
  rfl
/-- What the launch hands the region, spelled out: the scratch buffer, the four cells and the result buffer. -/
theorem launched_eq (G' : (c : Dev nD) → (b : Ref sig .tc) → Buf (Elt F) ((c : Thread nD τ).loc b)) (c : Dev nD) :
    (Pipeline.ΦDRV osem spec0 ∅ written (V m) G' c : sProp 𝕄)
      = iprop((∃ e : ScrBuf (F := F) c, (c : Thread nD τ).loc cc0_scratch0 ↦{fullShare} e) ∗ (cellZero c 0 ∗ cellZero c 1 ∗ cellZero c 2 ∗ cellZero c 3) ∗ BI.emp ∗ ((c : Thread nD τ).loc main_v8 ↦{fullShare} G' c main_v8)) := by
  unfold Pipeline.ΦDRV
  rw [scopedRest0_eq, mine_eq, BI.bigSep_empty, BI.bigSep_singleton]
/-- From what the launch hands over, the ring before the first point. -/
theorem hin (c : Dev nD) : Pipeline.ΦDRV osem spec0 ∅ written (V m) (V m) c ⊢ (dats m 0 c).Φ 0 := by
  rw [launched_eq, show (dats m 0 c).Φ 0 = inv m c 0 from rfl]
  unfold inv
  iintro ⟨HS, HC, -, HO⟩
  iapply (ring_in c (outG m c) (V m c main_v8))
  isplitl [HS]; · iexact HS
  isplitl [HC]; · iexact HC
  iexact HO
/-- From the ring after the last point, what the launch takes back, the result buffer at its final contents. -/
theorem hout (c : Dev nD) : (dats m 0 c).Φ (Fin.last cfg0.N) ⊢ Pipeline.ΦDRV osem spec0 ∅ written (V m) (GV m) c := by
  rw [launched_eq, show (dats m 0 c).Φ (Fin.last cfg0.N) = inv m c grid0.N from rfl, show grid0.N = 20 from N_0, GV_v8]
  unfold inv
  iintro HI
  ihave HJ := (ring_out c (outG m c)) $$ HI
  icases HJ with ⟨HS, HC, HO⟩
  isplitl [HS]; · iexact HS
  isplitl [HC]; · iexact HC
  isplitr; · iempintro
  iexact HO

/-! ## The run -/

/-- The buffers when the region ends: the result at `outG`, the rest as the region found them. -/
abbrev endV (c : Dev nD) : Valuation τ sig (Elt F) :=
  Pipeline.withArrays spec0 c (Pipeline.withR (V0 m c) written c (GV m c)) fun w => (dats m 0 c).arrAt w cfg0.N

/-- Every run of the program ends, with the windows' arrays as they were, every other buffer as the last host line leaves it,
    and every semaphore at zero. -/
def Ends (r : PUnit × MemSt nD τ sig (Elt F)) : Prop :=
  (∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = StableHlo.after [hostOps1].flatten (endV m c) (Proc.devRef .tc b))
  ∧ r.2.sem = fun _ => 0

set_option maxHeartbeats 800000 in
/-- The program is its first host lines, the region, and its last host line. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
set_option maxHeartbeats 800000 in
/-- Every run of the program ends in the state that `Ends` describes. -/
theorem run_main : θ_run defs (onTc (τ := τ) (main (F := F))) (s₀ m ρ) (Ends m) :=
  Pipeline.θ_run_frame_dmaR_aroundV cfgs (dats m) (0 : Fin 1) launch0 osem defs₀ Variants.none ownFacts ∅ written (by simp) (by decide) m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := GV m) (hmain := hmain m Variants.none) (hA := A_eq m) (hin := hin m) (hout := hout m)
    (Q' := Ends m) (hQ' := fun _ h => h)

/-! ## What the run leaves -/

/-- A buffer that neither the region nor the last host line writes ends as the region found it. -/
theorem end_arg (c : Dev nD) (b : Ref sig .tc) (h9 : b ≠ main_v9) (h8 : b ≠ main_v8) (ha : ∀ w, Pipeline.arrRef spec0 w ≠ b) :
    StableHlo.after [hostOps1].flatten (endV m c) (Proc.devRef .tc b) = V m c b := by
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h9))]
  unfold endV
  rw [Pipeline.withArrays_of_ne _ c _ _ b ha, Pipeline.withR_of_not_mem _ _ _ _ b (by simpa using h8)]
/-- The program's result: the region's result, its rows in groups of 200. -/
theorem end_result (c : Dev nD) :
    StableHlo.after [hostOps1].flatten (endV m c) (Proc.devRef .tc main_v9) = shapeCast S1024x200x128 (outG m c) shapeCasts_S204800x128_S1024x200x128 := by
  have h : endV m c (Proc.devRef .tc main_v8) = outG m c := by
    unfold endV
    rw [Pipeline.withArrays_of_ne _ c _ _ main_v8 (by exact (by decide : ∀ w, Pipeline.arrRef spec0 w ≠ main_v8)), Pipeline.withR_of_mem _ _ _ _ main_v8 (by simp), GV_v8]
  rw [← h]
  rfl

/-- The arguments end as they began. -/
abbrev Kept (c : Dev nD) (r : PUnit × MemSt nD τ sig (Elt F)) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
/-- In such a state the arguments are as they began. -/
theorem kept_of (c : Dev nD) (r : PUnit × MemSt nD τ sig (Elt F)) (h : Ends m r) : Kept m c r :=
  ⟨((h.1 c).2 main_arg0 (Pipeline.mem_restRefs_of main_arg0 (by decide) (by decide))).trans ((end_arg m c main_arg0 (by decide) (by decide) (by decide)).trans (V_main_arg0 m c)),
   ((h.1 c).2 main_arg1 (Pipeline.mem_restRefs_of main_arg1 (by decide) (by decide))).trans ((end_arg m c main_arg1 (by decide) (by decide) (by decide)).trans (V_main_arg1 m c)),
   ((h.1 c).1 1).trans (((dats m 0 c).arrAt_in 1 rfl _).trans ((A_eq m c 1).trans (V_main_arg2 m c))),
   ((h.1 c).1 2).trans (((dats m 0 c).arrAt_in 2 rfl _).trans ((A_eq m c 2).trans (V_main_arg3 m c))),
   ((h.1 c).1 3).trans (((dats m 0 c).arrAt_in 3 rfl _).trans ((A_eq m c 3).trans (V_main_arg4 m c))),
   ((h.1 c).1 4).trans (((dats m 0 c).arrAt_in 4 rfl _).trans ((A_eq m c 4).trans (V_main_arg5 m c))),
   ((h.1 c).2 main_arg6 (Pipeline.mem_restRefs_of main_arg6 (by decide) (by decide))).trans ((end_arg m c main_arg6 (by decide) (by decide) (by decide)).trans (V_main_arg6 m c)),
   ((h.1 c).2 main_arg7 (Pipeline.mem_restRefs_of main_arg7 (by decide) (by decide))).trans ((end_arg m c main_arg7 (by decide) (by decide) (by decide)).trans (V_main_arg7 m c)),
   ((h.1 c).2 main_arg8 (Pipeline.mem_restRefs_of main_arg8 (by decide) (by decide))).trans ((end_arg m c main_arg8 (by decide) (by decide) (by decide)).trans (V_main_arg8 m c)),
   ((h.1 c).1 8).trans (((dats m 0 c).arrAt_in 8 rfl _).trans ((A_eq m c 8).trans (V_main_arg9 m c))),
   ((h.1 c).2 main_arg10 (Pipeline.mem_restRefs_of main_arg10 (by decide) (by decide))).trans ((end_arg m c main_arg10 (by decide) (by decide) (by decide)).trans (V_main_arg10 m c))⟩
/-- Every run leaves the arguments as they were and every semaphore at zero. -/
theorem frame : θ_run defs (onTc (τ := τ) (main (F := F))) ⟨m, fun _ => 0, ρ⟩ (fun r => (∀ c : Dev nD, Kept m c r) ∧ r.2.sem = fun _ => 0) :=
  (θ_run defs _ _).mono (fun r h => ⟨fun c => kept_of m c r h, h.2⟩) (run_main m ρ)
/-- Every run leaves in the program's result the region's result, its rows in groups of 200, and the arguments as they were. -/
theorem run_value : θ_run defs (onTc (τ := τ) (main (F := F))) ⟨m, fun _ => 0, ρ⟩ (fun r => ∀ c : Dev nD,
    r.2.mem ((c.tc : Thread nD τ).loc main_v9) = shapeCast S1024x200x128 (outG m c) shapeCasts_S204800x128_S1024x200x128 ∧ Kept m c r) :=
  (θ_run defs _ _).mono (fun r h c => ⟨((h.1 c).2 main_v9 (Pipeline.mem_restRefs_of main_v9 (by decide) (by decide))).trans (end_result m c), kept_of m c r h⟩) (run_main m ρ)

end Cert.KernelIdeal.Hand

end
-- ==== Proof.KernelFrame.lean ====
/- The frame of `Kernel`: its text is `KernelIdeal`'s, no operation having been rewritten, so the run proved there at any
   reading of the floats is a run of it. -/
module

public import proofs.«01_k».proof.Proof.Launch
public import proofs.«01_k».proof.Proof.Gen.Kernel.Frame

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

variable (m : (ℓ : Loc nD τ sig) → Buf (Elt F) ℓ) (ρ : Dev nD → PrngReg)

/-- The arguments end as they began. -/
abbrev Kept (c : Dev nD) (r : PUnit × MemSt nD τ sig (Elt F)) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
/-- `Kernel`'s run says what `KernelIdeal`'s does. -/
theorem same_run : (θ_run (Cert.Kernel.defs (F := F)) (onTc (τ := τ) (Cert.Kernel.main (F := F))) ⟨m, fun _ => 0, ρ⟩ (fun r => (∀ c : Dev nD, Kept m c r) ∧ r.2.sem = fun _ => 0) : Prop)
    = (θ_run (Cert.KernelIdeal.defs (F := F)) (onTc (τ := Cert.KernelIdeal.τ) (Cert.KernelIdeal.main (F := F))) ⟨m, fun _ => 0, ρ⟩ (fun r => (∀ c : Dev Cert.KernelIdeal.nD, Cert.KernelIdeal.Hand.Kept m c r) ∧ r.2.sem = fun _ => 0) : Prop) := by
  chain_rfl
/-- Every run leaves the arguments as they were and every semaphore at zero. -/
theorem frame : θ_run (Cert.Kernel.defs (F := F)) (onTc (τ := τ) (Cert.Kernel.main (F := F))) ⟨m, fun _ => 0, ρ⟩ (fun r => (∀ c : Dev nD, Kept m c r) ∧ r.2.sem = fun _ => 0) :=
  (same_run m ρ).mpr (Cert.KernelIdeal.Hand.frame m ρ)

end Cert.Kernel.Hand

end
-- ==== Proof.Blocks.lean ====
/- The windows' blocks, as entries of the argument arrays. -/
module

public import proofs.«01_k».proof.Proof.Launch
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic

open Cert.KernelIdeal.Gen

variable (m : (ℓ : Loc nD τ sig) → Buf (Elt Ideal) ℓ) (c : Dev nD) (t : Fin cfg0.N)

/-- The windows' block indices: window 0's is the grid point, every other window stays at the start of its array. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] :=
  (by decide +kernel : ∀ t : Fin grid0.N, _)

/-! The row vectors as the region finds them: the arguments as one row. -/

/-- The region finds the bias of the continuous map as one row. -/
theorem entry_v4 : (V m c main_v4 : FVec Ideal S1x16 .f32) = shapeCast S1x16 (m ((c : Thread nD τ).loc main_arg6) : FVec Ideal S16 .f32) shapeCasts_S16_S1x16 := by
  simp only [V, V0, List.flatten_cons, List.flatten_nil, List.append_nil, hostOps0]
  after_results
  rfl
/-- The region finds the scale of the normalised row as one row. -/
theorem entry_v5 : (V m c main_v5 : FVec Ideal S1x16 .f32) = shapeCast S1x16 (m ((c : Thread nD τ).loc main_arg7) : FVec Ideal S16 .f32) shapeCasts_S16_S1x16 := by
  simp only [V, V0, List.flatten_cons, List.flatten_nil, List.append_nil, hostOps0]
  after_results
  rfl
/-- The region finds the shift of the normalised row as one row. -/
theorem entry_v6 : (V m c main_v6 : FVec Ideal S1x16 .f32) = shapeCast S1x16 (m ((c : Thread nD τ).loc main_arg8) : FVec Ideal S16 .f32) shapeCasts_S16_S1x16 := by
  simp only [V, V0, List.flatten_cons, List.flatten_nil, List.append_nil, hostOps0]
  after_results
  rfl
/-- The region finds the merge bias as one row. -/
theorem entry_v7 : (V m c main_v7 : FVec Ideal S1x128 .f32) = shapeCast S1x128 (m ((c : Thread nD τ).loc main_arg10) : FVec Ideal S128 .f32) shapeCasts_S128_S1x128 := by
  simp only [V, V0, List.flatten_cons, List.flatten_nil, List.append_nil, hostOps0]
  after_results
  rfl
/-- The flattened rows: the three categories as reals, then the two continuous inputs. -/
def rowsIn : FVec Ideal S204800x5 .f32 := concatenate S204800x5 1
    [⟨S204800x3, sitofp (F := Ideal) .f32 (shapeCast S204800x3 (m ((c : Thread nD τ).loc main_arg0) : IVec S1024x200x3 32) shapeCasts_S1024x200x3_S204800x3)⟩,
      ⟨S204800x2, (shapeCast S204800x2 (m ((c : Thread nD τ).loc main_arg1) : FVec Ideal S1024x200x2 .f32) shapeCasts_S1024x200x2_S204800x2 : FVec Ideal S204800x2 .f32)⟩]
    concatenates_S204800x3_S204800x2_S204800x5_d1
/-- Window 0's array as the region finds it holds those rows. -/
theorem entry_v3 : (V m c main_v3 : FVec Ideal S204800x5 .f32) = rowsIn m c := by
  simp only [V, V0, List.flatten_cons, List.flatten_nil, List.append_nil, hostOps0]
  after_results
  rfl

/-! Each window's block at a grid point, as entries of the argument arrays. -/

/-- Window 1's block is the first eight rows of the first table. -/
theorem block_1 (i : Fin 8) (e : Fin 16) :
    (X0_1 m c t : FVec Ideal S8x16 .f32) (ix2 i e) = (m ((c : Thread nD τ).loc main_arg2) : FVec Ideal S100001x16 .f32) (ix2 ⟨i.val, by omega⟩ e) := by
  unfold X0_1 Pipeline.Window.fill
  rw [dif_pos (moved0_1 t _)]
  blk_point [iblk, V, idx t]
/-- Window 2's block is the first eight rows of the second table. -/
theorem block_2 (i : Fin 8) (e : Fin 16) :
    (X0_2 m c t : FVec Ideal S8x16 .f32) (ix2 i e) = (m ((c : Thread nD τ).loc main_arg3) : FVec Ideal S9x16 .f32) (ix2 ⟨i.val, by omega⟩ e) := by
  unfold X0_2 Pipeline.Window.fill
  rw [dif_pos (moved0_2 t _)]
  blk_point [iblk, V, idx t]
/-- Window 3's block is the third table. -/
theorem block_3 (i : Fin 4) (e : Fin 16) :
    (iblk m c 3 t : FVec Ideal S4x16 .f32) (ix2 i e) = (m ((c : Thread nD τ).loc main_arg4) : FVec Ideal S4x16 .f32) (ix2 i e) := by
  blk_point [iblk, V, idx t]
/-- Window 4's block is the weights of the continuous map. -/
theorem block_4 (i : Fin 2) (e : Fin 16) :
    (iblk m c 4 t : FVec Ideal S2x16 .f32) (ix2 i e) = (m ((c : Thread nD τ).loc main_arg5) : FVec Ideal S2x16 .f32) (ix2 i e) := by
  blk_point [iblk, V, idx t]
/-- Window 8's block is the merge weights. -/
theorem block_8 (i : Fin 64) (e : Fin 128) :
    (iblk m c 8 t : FVec Ideal S64x128 .f32) (ix2 i e) = (m ((c : Thread nD τ).loc main_arg9) : FVec Ideal S64x128 .f32) (ix2 i e) := by
  blk_point [iblk, V, idx t]
/-- Window 5's block is the bias of the continuous map. -/
theorem block_5 (e : Fin 16) :
    (iblk m c 5 t : FVec Ideal S1x16 .f32) (ix2 0 e) = (m ((c : Thread nD τ).loc main_arg6) : FVec Ideal S16 .f32) (ix1 e) := by
  show ((cfg0.win 5).blk t).view.read (Elt Ideal) (V m c main_v4) (ix2 0 e) = _
  rw [entry_v4]
  blk_simp [idx t]
  pointwise
  blk_ext [idx t]
/-- Window 6's block is the scale of the normalised row. -/
theorem block_6 (e : Fin 16) :
    (iblk m c 6 t : FVec Ideal S1x16 .f32) (ix2 0 e) = (m ((c : Thread nD τ).loc main_arg7) : FVec Ideal S16 .f32) (ix1 e) := by
  show ((cfg0.win 6).blk t).view.read (Elt Ideal) (V m c main_v5) (ix2 0 e) = _
  rw [entry_v5]
  blk_simp [idx t]
  pointwise
  blk_ext [idx t]
/-- Window 7's block is the shift of the normalised row. -/
theorem block_7 (e : Fin 16) :
    (iblk m c 7 t : FVec Ideal S1x16 .f32) (ix2 0 e) = (m ((c : Thread nD τ).loc main_arg8) : FVec Ideal S16 .f32) (ix1 e) := by
  show ((cfg0.win 7).blk t).view.read (Elt Ideal) (V m c main_v6) (ix2 0 e) = _
  rw [entry_v6]
  blk_simp [idx t]
  pointwise
  blk_ext [idx t]
/-- Window 9's block is the merge bias. -/
theorem block_9 (e : Fin 128) :
    (iblk m c 9 t : FVec Ideal S1x128 .f32) (ix2 0 e) = (m ((c : Thread nD τ).loc main_arg10) : FVec Ideal S128 .f32) (ix1 e) := by
  show ((cfg0.win 9).blk t).view.read (Elt Ideal) (V m c main_v7) (ix2 0 e) = _
  rw [entry_v7]
  blk_simp [idx t]
  pointwise
  blk_ext [idx t]

/-! ## The rows

Row `200 * b + s` of the flattened arrays is place `(b, s)`. -/

section
variable (b : Fin 1024) (s : Fin 200) (R : Fin 204800) (h : R.val = 200 * b.val + s.val)
include h
/-- An array of places, flattened to rows, holds place `(b, s)` at row `200 * b + s`; -/
theorem flatten_apply {α : Type} {k : Nat} (x : (⟨3, ![1024, 200, k]⟩ : Shape).Idx → α) (hc : (⟨3, ![1024, 200, k]⟩ : Shape).ShapeCasts ⟨2, ![204800, k]⟩)
    (i : Fin k) : shapeCast ⟨2, ![204800, k]⟩ x hc (ix2 R i) = x (ix3 b s i) :=
  shapeCast_apply _ _ _ _ (by
    rw [Shape.rowMajor_val_two, Shape.rowMajor_val_three]
    show (b.val * 200 + s.val) * k + i.val = R.val * k + i.val
    rw [h, Nat.mul_comm b.val])
/-- and rows grouped by 200 hold row `200 * b + s` at place `(b, s)`. -/
theorem unflatten_apply {α : Type} {k : Nat} (x : (⟨2, ![204800, k]⟩ : Shape).Idx → α) (hc : (⟨2, ![204800, k]⟩ : Shape).ShapeCasts ⟨3, ![1024, 200, k]⟩)
    (i : Fin k) : shapeCast ⟨3, ![1024, 200, k]⟩ x hc (ix3 b s i) = x (ix2 R i) :=
  shapeCast_apply _ _ _ _ (by
    rw [Shape.rowMajor_val_two, Shape.rowMajor_val_three]
    show R.val * k + i.val = (b.val * 200 + s.val) * k + i.val
    rw [h, Nat.mul_comm b.val])
/-- The first three entries of a flattened row are the categories of its place, as reals; -/
theorem rowsIn_cat (g : Fin 3) : rowsIn m c (ix2 R ⟨g.val, by omega⟩)
    = FloatOps.sitofp (F := Ideal) .f32 ((m ((c : Thread nD τ).loc main_arg0) : IVec S1024x200x3 32) (ix3 b s g)) := by
  rw [← flatten_apply b s R h (m ((c : Thread nD τ).loc main_arg0) : IVec S1024x200x3 32) shapeCasts_S1024x200x3_S204800x3 g]
  unfold rowsIn
  generalize shapeCast S204800x3 (m ((c : Thread nD τ).loc main_arg0) : IVec S1024x200x3 32) shapeCasts_S1024x200x3_S204800x3 = A
  generalize (shapeCast S204800x2 (m ((c : Thread nD τ).loc main_arg1) : FVec Ideal S1024x200x2 .f32) shapeCasts_S1024x200x2_S204800x2 : FVec Ideal S204800x2 .f32) = B
  pointwise
/-- the last two are the continuous inputs of its place. -/
theorem rowsIn_cont (i : Fin 2) : rowsIn m c (ix2 R ⟨3 + i.val, by omega⟩) = (m ((c : Thread nD τ).loc main_arg1) : FVec Ideal S1024x200x2 .f32) (ix3 b s i) := by
  rw [← flatten_apply b s R h (m ((c : Thread nD τ).loc main_arg1) : FVec Ideal S1024x200x2 .f32) shapeCasts_S1024x200x2_S204800x2 i]
  unfold rowsIn
  generalize shapeCast S204800x3 (m ((c : Thread nD τ).loc main_arg0) : IVec S1024x200x3 32) shapeCasts_S1024x200x3_S204800x3 = A
  generalize (shapeCast S204800x2 (m ((c : Thread nD τ).loc main_arg1) : FVec Ideal S1024x200x2 .f32) shapeCasts_S1024x200x2_S204800x2 : FVec Ideal S204800x2 .f32) = B
  pointwise
end

/-- Row `r` of window 0's block at point `t` is row `10240 * t + r`. -/
theorem block_0 (r : Fin 10240) (k : Fin 5) (R : Fin 204800) (h : R.val = 10240 * t.val + r.val) :
    (iblk m c 0 t : FVec Ideal S10240x5 .f32) (ix2 r k) = rowsIn m c (ix2 R k) := by
  show ((cfg0.win 0).blk t).view.read (Elt Ideal) (V m c main_v3) (ix2 r k) = _
  rw [entry_v3]
  blk_ext [idx t]

end Cert.KernelIdeal.Hand

end
-- ==== Proof.Algebra.lean ====
/- The arithmetic of one row, at extended reals: the kernel centers the weights and multiplies by the reciprocal root,
   the reference centers the values and divides by the root. -/
module

public import Idealize.ShloMosaic.Lib.Pointwise
public import Idealize.ShloMosaic.Lib.IdealHost

@[expose] public section

noncomputable section

namespace Cert.KernelIdeal.Hand

open Idealize.ShloMosaic

/-! ## The constants -/

/-- The kernel's averaging weight. -/
abbrev sixteenth : EReal := Ideal.ofBits .f32 0x3D800000#32
/-- The number of columns the reference divides by. -/
abbrev sixteen : EReal := Ideal.ofBits .f32 0x41800000#32
/-- What both add to the variance. -/
abbrev epsilon : EReal := Ideal.ofBits .f32 0x3727C5AC#32

/-- The averaging weight is the real 1/16. -/
theorem sixteenth_eq : sixteenth = ((1 / 16 : ℝ) : EReal) := by
  simp [sixteenth, Ideal.ofBits, Ideal.ieee, -EReal.coe_mul]; norm_num
/-- The divisor is the real 16. -/
theorem sixteen_eq : sixteen = ((16 : ℝ) : EReal) := by
  simp [sixteen, Ideal.ofBits, Ideal.ieee, -EReal.coe_mul]; norm_num
/-- What is added to the variance is a positive real. -/
theorem epsilon_pos : ∃ r : ℝ, 0 < r ∧ epsilon = (r : EReal) := by
  refine ⟨_, ?_, by simp [epsilon, Ideal.ofBits, Ideal.ieee, -EReal.coe_mul]; rfl⟩
  positivity

/-- Division by sixteen is multiplication by the averaging weight. -/
theorem div_sixteen (a : EReal) : Ideal.div a sixteen = a * sixteenth := by
  rw [sixteen_eq, sixteenth_eq, Ideal.div_coe (by norm_num)]

/-! ## Extended reals that are not real -/

/-- An extended real that is an infinity. -/
def Inf (a : EReal) : Prop := a = ⊤ ∨ a = ⊥

/-- An extended real is a real or an infinity. -/
theorem real_or_inf (a : EReal) : (∃ r : ℝ, a = r) ∨ Inf a := by
  induction a using EReal.rec with
  | bot => exact .inr (.inr rfl)
  | top => exact .inr (.inl rfl)
  | coe r => exact .inl ⟨r, rfl⟩
/-- A sum whose first term is an infinity is one. -/
theorem Inf.add {a : EReal} (h : Inf a) (b : EReal) : Inf (a + b) := by
  rcases h with rfl | rfl
  · induction b using EReal.rec <;> simp [Inf]
  · simp [Inf]
/-- A sum whose second term is an infinity is one. -/
theorem Inf.add' {b : EReal} (h : Inf b) (a : EReal) : Inf (a + b) := add_comm b a ▸ h.add a
/-- The negation of an infinity is one. -/
theorem Inf.neg {a : EReal} (h : Inf a) : Inf (-a) := by rcases h with rfl | rfl <;> simp [Inf]
/-- A difference whose second term is an infinity is one. -/
theorem Inf.sub' {b : EReal} (h : Inf b) (a : EReal) : Inf (a - b) := by rw [sub_eq_add_neg]; exact h.neg.add' a
/-- A finite sum with an infinity among its terms is one. -/
theorem Inf.sum {ι : Type} [Fintype ι] [DecidableEq ι] {f : ι → EReal} {i : ι} (h : Inf (f i)) : Inf (∑ i, f i) := by
  rw [← Finset.add_sum_erase _ _ (Finset.mem_univ i)]
  exact h.add _
/-- A nonzero real times an infinity is an infinity. -/
theorem Inf.mul_real {r : ℝ} (hr : r ≠ 0) {a : EReal} (h : Inf a) : Inf ((r : EReal) * a) := by
  rcases lt_or_gt_of_ne hr with hr | hr <;> rcases h with rfl | rfl
  · exact .inr (EReal.coe_mul_top_of_neg hr)
  · exact .inl (EReal.coe_mul_bot_of_neg hr)
  · exact .inl (EReal.coe_mul_top_of_pos hr)
  · exact .inr (EReal.coe_mul_bot_of_pos hr)
/-- The square of an infinity is the positive one. -/
theorem Inf.sq {a : EReal} (h : Inf a) : a * a = ⊤ := by rcases h with rfl | rfl <;> simp
/-- A square is not negative. -/
theorem sq_nonneg' (a : EReal) : 0 ≤ a * a := by
  rcases real_or_inf a with ⟨r, rfl⟩ | h
  · exact_mod_cast mul_self_nonneg r
  · rw [h.sq]; exact le_top
/-- The sum of the squares of values with an infinity among them is the positive infinity. -/
theorem Inf.sum_sq {ι : Type} [Fintype ι] [DecidableEq ι] {f : ι → EReal} {i : ι} (h : Inf (f i)) : ∑ i, f i * f i = ⊤ := by
  rw [← Finset.add_sum_erase _ _ (Finset.mem_univ i), h.sq]
  exact EReal.top_add_of_ne_bot (ne_of_gt (lt_of_lt_of_le EReal.bot_lt_zero (Finset.sum_nonneg fun i _ => sq_nonneg' _)))
/-- A positive infinity times the averaging weight is one. -/
theorem top_mul_sixteenth : ⊤ * sixteenth = ⊤ := by
  rw [sixteenth_eq]; exact EReal.top_mul_coe_of_pos (by norm_num)
/-- A positive infinity with the small constant added is one. -/
theorem top_add_epsilon : ⊤ + epsilon = ⊤ := by
  obtain ⟨r, -, h⟩ := epsilon_pos
  rw [h]; exact EReal.top_add_coe r

/-! ## The continuous part of a row -/

/-- The two continuous inputs mapped to sixteen columns. -/
def lin (x : Fin 2 → EReal) (W : Fin 2 → Fin 16 → EReal) (B : Fin 16 → EReal) (e : Fin 16) : EReal := ∑ i, x i * W i e + B e
/-- The same by weights and bias that are centered first. -/
def linCentered (x : Fin 2 → EReal) (W : Fin 2 → Fin 16 → EReal) (B : Fin 16 → EReal) (e : Fin 16) : EReal :=
  ∑ i, x i * (W i e - ∑ e', W i e' * sixteenth) + (B e - ∑ e', B e' * sixteenth)
/-- A value less the mean of all. -/
def centered (v : Fin 16 → EReal) (e : Fin 16) : EReal := v e - Ideal.div (∑ e', v e') sixteen
/-- The reference's normalised value: centered, and divided by the root of the variance. -/
def normed (v : Fin 16 → EReal) (e : Fin 16) : EReal :=
  Ideal.div (centered v e) (Ideal.sqrt (Ideal.div (∑ e', centered v e' * centered v e') sixteen + epsilon))
/-- The kernel's normalised value of columns that are centered already. -/
def scaled (v : Fin 16 → EReal) (e : Fin 16) : EReal := v e * Ideal.rsqrt (∑ e', v e' * v e' * sixteenth + epsilon)

/-- A finite sum of reals is a real. -/
theorem sum_real {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A product with the averaging weight may be taken after the sum of squares. -/
theorem sum_sq_mul (v : Fin 16 → EReal) : ∑ e, v e * v e * sixteenth = (∑ e, v e * v e) * sixteenth := by
  have h : ∀ s : Finset (Fin 16), ∑ e ∈ s, v e * v e * sixteenth = (∑ e ∈ s, v e * v e) * sixteenth := by
    intro s
    induction s using Finset.induction_on with
    | empty => simp
    | insert i s hi ih =>
      rw [Finset.sum_insert hi, Finset.sum_insert hi, ih,
        EReal.right_distrib_of_nonneg (sq_nonneg' _) (Finset.sum_nonneg fun i _ => sq_nonneg' _)]
  exact h _

/-- The root of a real that is not negative. -/
theorem sqrt_real {r : ℝ} (h : 0 < r) : Ideal.sqrt (r : EReal) = (Real.sqrt r : EReal) := if_neg (not_lt.mpr h.le)
/-- The reciprocal root of a positive real. -/
theorem rsqrt_real {r : ℝ} (h : 0 < r) : Ideal.rsqrt (r : EReal) = ((Real.sqrt r)⁻¹ : ℝ) :=
  (if_neg (not_lt.mpr h.le)).trans (if_neg h.ne')

/-- Both normalisations take the same variance and agree when the values are real and centered. -/
theorem scaled_real (d : Fin 16 → ℝ) (v t : Fin 16 → EReal) (hv : ∀ e, centered v e = d e) (ht : ∀ e, t e = d e) (e : Fin 16) :
    scaled t e = normed v e := by
  obtain ⟨ε, hε, h⟩ := epsilon_pos
  obtain rfl : t = fun e => (d e : EReal) := funext ht
  have hs : (∑ e, (d e : EReal) * d e) * sixteenth + epsilon = (((∑ e, d e * d e) * (1 / 16) + ε : ℝ) : EReal) := by
    simp only [← EReal.coe_mul, sum_real, h, sixteenth_eq, ← EReal.coe_add]
  have hp : 0 < (∑ e, d e * d e) * (1 / 16) + ε :=
    add_pos_of_nonneg_of_pos (mul_nonneg (Finset.sum_nonneg fun i _ => mul_self_nonneg _) (by norm_num)) hε
  unfold scaled normed
  simp only [hv]
  rw [div_sixteen, sum_sq_mul, hs]
  rw [sqrt_real hp, rsqrt_real hp, Ideal.div_coe (Real.sqrt_pos.mpr hp).ne', one_div (Real.sqrt _)]

/-- Columns with an infinity among them are normalised to zero by the reference. -/
theorem normed_inf {v : Fin 16 → EReal} {i : Fin 16} (h : Inf (v i)) (e : Fin 16) : normed v e = 0 := by
  have hm : Inf (Ideal.div (∑ e', v e') sixteen) := by
    rw [div_sixteen, mul_comm, sixteenth_eq]
    exact (Inf.sum h).mul_real (by norm_num)
  have hs : ∑ e', centered v e' * centered v e' = ⊤ := Inf.sum_sq (i := i) (hm.sub' _)
  unfold normed
  rw [hs, div_sixteen, top_mul_sixteenth, top_add_epsilon, show Ideal.sqrt ⊤ = ⊤ from rfl]
  simp [Ideal.div]
/-- Columns with an infinity among them are normalised to zero by the kernel. -/
theorem scaled_inf {v : Fin 16 → EReal} {i : Fin 16} (h : Inf (v i)) (e : Fin 16) : scaled v e = 0 := by
  unfold scaled
  rw [sum_sq_mul, Inf.sum_sq h, top_mul_sixteenth, top_add_epsilon, show Ideal.rsqrt ⊤ = 0 from rfl, mul_zero]

/-- A real times weights that are real, or zero times any weights: the products are real, before and after centering. -/
theorem product_real (a : ℝ) (w : Fin 16 → EReal) (h : a = 0 ∨ ∀ e, ∃ r : ℝ, w e = r) :
    ∃ v : Fin 16 → ℝ, ∀ e, (a : EReal) * w e = ((a * v e : ℝ) : EReal)
      ∧ (a : EReal) * (w e - ∑ e', w e' * sixteenth) = ((a * (v e - (∑ e', v e') * (1 / 16)) : ℝ) : EReal) := by
  rcases h with rfl | h
  · exact ⟨fun _ => 0, fun e => by simp⟩
  · choose v hv using h
    refine ⟨v, fun e => ⟨by rw [hv, EReal.coe_mul], ?_⟩⟩
    simp only [hv, sixteenth_eq, ← EReal.coe_mul, sum_real, ← EReal.coe_sub, ← Finset.sum_mul]

/-- The kernel's normalised column is the reference's, for real inputs and any weights and bias. -/
theorem scaled_eq (x : Fin 2 → EReal) (W : Fin 2 → Fin 16 → EReal) (B : Fin 16 → EReal) (hx : ∀ i, ∃ r : ℝ, x i = r) (e : Fin 16) :
    scaled (linCentered x W B) e = normed (lin x W B) e := by
  choose a ha using hx
  obtain rfl : x = fun i => (a i : EReal) := funext ha
  by_cases h : (∀ i, a i = 0 ∨ ∀ e, ∃ r : ℝ, W i e = r) ∧ ∀ e, ∃ r : ℝ, B e = r
  · obtain ⟨hW, hB⟩ := h
    choose w hw using fun i => product_real (a i) (W i) (hW i)
    obtain ⟨b, hb⟩ := product_real 1 B (.inr hB)
    simp only [EReal.coe_one, one_mul] at hb
    have hl : ∀ e, lin (fun i => (a i : EReal)) W B e = ((a 0 * w 0 e + a 1 * w 1 e + b e : ℝ) : EReal) := fun e => by
      unfold lin
      rw [Fin.sum_univ_two, (hw 0 e).1, (hw 1 e).1, (hb e).1, EReal.coe_add, EReal.coe_add]
    refine scaled_real (fun e => (a 0 * w 0 e + a 1 * w 1 e + b e) - (∑ e', (a 0 * w 0 e' + a 1 * w 1 e' + b e')) * (1 / 16))
      _ _ (fun e => ?_) (fun e => ?_) e
    · unfold centered
      simp only [hl, div_sixteen, sum_real, sixteenth_eq, ← EReal.coe_mul, ← EReal.coe_sub]
    · unfold linCentered
      rw [Fin.sum_univ_two, (hw 0 e).2, (hw 1 e).2, (hb e).2, ← EReal.coe_add, ← EReal.coe_add]
      congr 1
      simp only [Finset.sum_add_distrib, ← Finset.mul_sum]
      ring
  · have key : (∃ i, a i ≠ 0 ∧ ∃ e, Inf (W i e)) ∨ ∃ e, Inf (B e) := by
      by_contra hn
      push Not at hn
      refine h ⟨fun i => ?_, fun e => (real_or_inf _).resolve_right (hn.2 e)⟩
      by_cases hi : a i = 0
      · exact .inl hi
      · exact .inr fun e => (real_or_inf _).resolve_right (hn.1 i hi e)
    have mean (w : Fin 16 → EReal) (i : Fin 16) (hi : Inf (w i)) (e : Fin 16) : Inf (w e - ∑ e', w e' * sixteenth) := by
      refine Inf.sub' (Inf.sum (i := i) ?_) _
      rw [mul_comm, sixteenth_eq]
      exact hi.mul_real (by norm_num)
    rcases key with ⟨i, hi, e', he⟩ | ⟨e', he⟩
    · rw [scaled_inf (i := e') ((Inf.sum (i := i) ((mean _ _ he _).mul_real hi)).add _),
        normed_inf (i := e') ((Inf.sum (i := i) (he.mul_real hi)).add _)]
    · rw [scaled_inf (i := e') ((mean _ _ he _).add' _), normed_inf (i := e') (he.add' _)]

/-! ## A row of the result -/

/-- A sum times a real distributes when the second term is real. -/
theorem add_mul_real (a : EReal) (b w : ℝ) : (a + b) * (w : EReal) = a * w + (b : EReal) * w := by
  rcases real_or_inf a with ⟨r, rfl⟩ | h
  · norm_cast; ring
  · rcases lt_trichotomy w 0 with hw | rfl | hw <;> rcases h with rfl | rfl
    · rw [EReal.top_add_coe, EReal.top_mul_coe_of_neg hw, EReal.bot_add]
    · rw [EReal.bot_add, EReal.bot_mul_coe_of_neg hw, ← EReal.coe_mul, EReal.top_add_coe]
    · simp
    · simp
    · rw [EReal.top_add_coe, EReal.top_mul_coe_of_pos hw, ← EReal.coe_mul, EReal.top_add_coe]
    · rw [EReal.bot_add, EReal.bot_mul_coe_of_pos hw, EReal.bot_add]

/-- The bias after normalising may be multiplied out, when it and the weights it meets are real. -/
theorem sum_bias (n b w : Fin 16 → EReal) (hb : ∀ e, ∃ r : ℝ, b e = r) (hw : ∀ e, ∃ r : ℝ, w e = r) :
    ∑ e, (n e + b e) * w e = ∑ e, n e * w e + ∑ e, b e * w e := by
  rw [← Finset.sum_add_distrib]
  refine Finset.sum_congr rfl fun e _ => ?_
  obtain ⟨b', hb⟩ := hb e
  obtain ⟨w', hw⟩ := hw e
  rw [hb, hw, add_mul_real]

/-- A sum over sixty-four columns is the sum over its four groups of sixteen. -/
theorem sum_groups (f : Fin 64 → EReal) :
    ∑ k, f k = ∑ e : Fin 16, f ⟨e.val, by omega⟩ + ∑ e : Fin 16, f ⟨16 + e.val, by omega⟩ + ∑ e : Fin 16, f ⟨32 + e.val, by omega⟩
      + ∑ e : Fin 16, f ⟨48 + e.val, by omega⟩ := by
  have h := Fin.sum_univ_add (M := EReal) (a := 48) (b := 16) f
  rw [h, Fin.sum_univ_add (a := 32) (b := 16), Fin.sum_univ_add (a := 16) (b := 16)]
  rfl

end Cert.KernelIdeal.Hand

end
-- ==== Proof.Point.lean ====
/- What one point of the region computes, at ideal floats, read at a row and a column. -/
module

public import proofs.«01_k».proof.Proof.Step
public import proofs.«01_k».proof.Proof.Algebra

@[expose] public section

set_option maxRecDepth 16384

noncomputable section

namespace Cert.KernelIdeal.Hand

open Idealize.ShloMosaic Idealize.ShloMosaic.TcCoe Idealize.ShloMosaic.Tactic
open Cert.KernelIdeal.Gen

variable (x0 : Vec Ideal S10240x5 .f32) (x1 x2 : Vec Ideal S8x16 .f32) (x3 : Vec Ideal S4x16 .f32) (x4 : Vec Ideal S2x16 .f32)
  (x5 x6 x7 : Vec Ideal S1x16 .f32) (x8 : Vec Ideal S64x128 .f32) (x9 : Vec Ideal S1x128 .f32)

/-! ## What the body's loads read -/

/-- A load from row `a` on reads the block's rows from there on. -/
theorem ld_apply {n k p q : Nat} {e : EltTy} (a : Nat) (h : ∀ d, (![a, 0] : Fin 2 → Nat) d + (![k, q] : Fin 2 → Nat) d ≤ (⟨2, ![n, p]⟩ : Shape).size d)
    (x : (⟨2, ![n, p]⟩ : Shape).Idx → Elt Ideal e) (i : Fin k) (j : Fin q) (i' : Fin n) (j' : Fin p) (hi : i'.val = a + i.val) (hj : j'.val = j.val) :
    ld (F := Ideal) (box ⟨2, ![n, p]⟩ ![a, 0] ![k, q] h) x (ix2 i j) = x (ix2 i' j') := by
  refine congrArg x (funext fun d => Fin.ext ?_)
  match d with
  | ⟨0, _⟩ => exact (congrArg (a + ·) (Nat.one_mul _)).trans hi.symm
  | ⟨1, _⟩ => exact ((Nat.zero_add _).trans (Nat.one_mul _)).trans hj.symm

/-- A load of the whole block reads the block. -/
theorem ld_whole {n p : Nat} {e : EltTy} {h : ∀ d, (![0, 0] : Fin 2 → Nat) d + (⟨2, ![n, p]⟩ : Shape).size d ≤ (⟨2, ![n, p]⟩ : Shape).size d}
    (x : (⟨2, ![n, p]⟩ : Shape).Idx → Elt Ideal e) : ld (F := Ideal) (box ⟨2, ![n, p]⟩ ![0, 0] (⟨2, ![n, p]⟩ : Shape).size h) x = x := by
  refine funext fun j => congrArg x (funext fun d => Fin.ext ?_)
  match d with
  | ⟨0, _⟩ => exact (Nat.zero_add _).trans (Nat.one_mul _)
  | ⟨1, _⟩ => exact (Nat.zero_add _).trans (Nat.one_mul _)

/-! ## The matrix of the last product -/

/-- Its first four rows are the first table's rows times the first sixteen rows of the merge weights. -/
theorem w28_first (v : Fin 4) (l : Fin 128) :
    w28 x1 x2 x3 x8 (ix2 ⟨v.val, by omega⟩ l) = ∑ e : Fin 16, x1 (ix2 ⟨v.val, by omega⟩ e) * x8 (ix2 ⟨e.val, by omega⟩ l) := by
  pointwise [w28, k0_pay2]
  exact Finset.sum_congr rfl fun e _ => Ideal.mul_congr (ld_apply 0 _ x1 _ _ _ _ (Nat.zero_add _).symm rfl) (ld_apply 0 _ x8 _ _ _ _ (Nat.zero_add _).symm rfl)
/-- Its next four rows are the second table's rows times the next sixteen rows of the merge weights. -/
theorem w28_second (v : Fin 4) (l : Fin 128) :
    w28 x1 x2 x3 x8 (ix2 ⟨4 + v.val, by omega⟩ l) = ∑ e : Fin 16, x2 (ix2 ⟨v.val, by omega⟩ e) * x8 (ix2 ⟨16 + e.val, by omega⟩ l) := by
  pointwise [w28, k0_pay2]
  exact Finset.sum_congr rfl fun e _ => Ideal.mul_congr (ld_apply 0 _ x2 _ _ _ _ (by simp) rfl) (ld_apply 16 _ x8 _ _ _ _ rfl rfl)
/-- Its next four rows are the third table's rows times the next sixteen rows of the merge weights. -/
theorem w28_third (v : Fin 4) (l : Fin 128) :
    w28 x1 x2 x3 x8 (ix2 ⟨8 + v.val, by omega⟩ l) = ∑ e : Fin 16, x3 (ix2 v e) * x8 (ix2 ⟨32 + e.val, by omega⟩ l) := by
  pointwise [w28, k0_pay2]
  split_ifs <;> try omega
  exact Finset.sum_congr rfl fun e _ => Ideal.mul_congr (ld_apply 0 _ x3 _ _ _ _ (by simp; omega) rfl) (ld_apply 32 _ x8 _ _ _ _ rfl rfl)
/-- Its last sixteen rows are the last sixteen rows of the merge weights. -/
theorem w28_last (e : Fin 16) (l : Fin 128) :
    w28 x1 x2 x3 x8 (ix2 ⟨12 + e.val, by omega⟩ l) = x8 (ix2 ⟨48 + e.val, by omega⟩ l) := by
  pointwise [w28, k0_pay2]
  split_ifs <;> try omega
  exact ld_apply 48 _ x8 _ _ _ _ (by simp; omega) rfl

/-! ## The matrix and the row of the first product -/

/-- A choice by a word that is one exactly when `p` holds. -/
theorem select_word {α : Type} (c : BitVec 1) (p : Prop) [Decidable p] (h : c = if p then 1#1 else 0#1) (a b : α) :
    Scalar.select c a b = if p then a else b := by
  subst h
  by_cases hp : p
  · rw [if_pos hp, if_pos hp]; rfl
  · rw [if_neg hp, if_neg hp]; rfl

/-- Each category word is copied to its own four of the first twelve columns. -/
theorem w5_pick (g : Fin 3) (k : Fin 12) :
    w5 x4 (ix2 ⟨g.val, by omega⟩ ⟨k.val, by omega⟩) = if k.val / 4 = g.val then 1 else 0 := by
  pointwise [w5, k0_pay8, k0_pay3, k0_pay4, k0_pay6, k0_pay7]
  refine select_word _ _ ?_ _ _
  revert k g
  decide
/-- The category words do not reach the last sixteen columns. -/
theorem w5_pick_zero (g : Fin 3) (e : Fin 16) : w5 x4 (ix2 ⟨g.val, by omega⟩ ⟨12 + e.val, by omega⟩) = 0 := by
  pointwise [w5, k0_pay8, k0_pay3, k0_pay4, k0_pay6, k0_pay7]
/-- The continuous words do not reach the first twelve columns. -/
theorem w5_lin_zero (i : Fin 2) (k : Fin 12) : w5 x4 (ix2 ⟨3 + i.val, by omega⟩ ⟨k.val, by omega⟩) = 0 := by
  pointwise [w5, k0_pay8, k0_pay3, k0_pay4, k0_pay6, k0_pay7]
/-- They meet the centered weights in the last sixteen. -/
theorem w5_lin (i : Fin 2) (e : Fin 16) :
    w5 x4 (ix2 ⟨3 + i.val, by omega⟩ ⟨12 + e.val, by omega⟩) = x4 (ix2 i e) - ∑ e', x4 (ix2 i e') * sixteenth := by
  pointwise [w5, k0_pay8, k0_pay3, k0_pay4, k0_pay6, k0_pay7]
  exact congrArg₂ (fun a b : EReal => a - b) (ld_apply 0 _ x4 _ _ _ _ (by simp) (by simp))
    (Finset.sum_congr rfl fun e' _ => congrArg (· * sixteenth) (ld_apply 0 _ x4 _ _ _ _ (by simp) rfl))
/-- The bias row is zero at the first twelve columns. -/
theorem b28_zero (k : Fin 12) : b28 x5 (ix2 0 ⟨k.val, by omega⟩) = 0 := by
  pointwise [b28, k0_pay9, k0_pay5, k0_pay3]
/-- It is the centered bias at the last sixteen. -/
theorem b28_lin (e : Fin 16) : b28 x5 (ix2 0 ⟨12 + e.val, by omega⟩) = x5 (ix2 0 e) - ∑ e', x5 (ix2 0 e') * sixteenth := by
  pointwise [b28, k0_pay9, k0_pay5, k0_pay3]
  exact congrArg₂ (fun a b : EReal => a - b) (ld_apply 0 _ x5 _ _ _ _ (by simp) (by simp))
    (Finset.sum_congr rfl fun e' _ => congrArg (· * sixteenth) (ld_apply 0 _ x5 _ _ _ _ (by simp) rfl))
/-- The averaging matrix is zero at its first twelve rows. -/
theorem avg_zero (k : Fin 12) (j : Fin 28) : k0_pay10 (F := Ideal) (ix2 ⟨k.val, by omega⟩ j) = 0 := by
  pointwise [k0_pay10]
  refine (select_word _ False ?_ _ _).trans (if_neg not_false)
  revert k j
  decide
/-- It averages the last sixteen columns. -/
theorem avg_lin (e e' : Fin 16) : k0_pay10 (F := Ideal) (ix2 ⟨12 + e.val, by omega⟩ ⟨12 + e'.val, by omega⟩) = sixteenth := by
  pointwise [k0_pay10]
  have h : ∀ e : Fin 16, IntOp.cmpi .sge (BitVec.ofNat 32 (12 + e.val)) 12#32 = 1#1 := by decide
  rw [h e, h e']
  rfl

/-! ## The first product -/

/-- Column `j` of the first product at row `r`, with the bias row added. -/
def tcol (r : Fin 10240) (j : Fin 28) : EReal := ∑ k : Fin 5, x0 (ix2 r k) * w5 x4 (ix2 k j) + b28 x5 (ix2 0 j)

/-- Each of the first twelve columns is the category word it copies. -/
theorem tcol_pick (r : Fin 10240) (k : Fin 12) : tcol x0 x4 x5 r ⟨k.val, by omega⟩ = x0 (ix2 r ⟨k.val / 4, by omega⟩) := by
  unfold tcol
  have h0 : w5 x4 (ix2 0 ⟨k.val, by omega⟩) = if k.val / 4 = 0 then 1 else 0 := w5_pick x4 0 k
  have h1 : w5 x4 (ix2 1 ⟨k.val, by omega⟩) = if k.val / 4 = 1 then 1 else 0 := w5_pick x4 1 k
  have h2 : w5 x4 (ix2 2 ⟨k.val, by omega⟩) = if k.val / 4 = 2 then 1 else 0 := w5_pick x4 2 k
  have h3 : w5 x4 (ix2 3 ⟨k.val, by omega⟩) = 0 := w5_lin_zero x4 0 k
  have h4 : w5 x4 (ix2 4 ⟨k.val, by omega⟩) = 0 := w5_lin_zero x4 1 k
  rw [Fin.sum_univ_five, b28_zero, h0, h1, h2, h3, h4]
  have hk : k.val / 4 = 0 ∨ k.val / 4 = 1 ∨ k.val / 4 = 2 := by omega
  rcases hk with hk | hk | hk <;> simp [hk]
/-- The last sixteen are the continuous words mapped by the centered weights. -/
theorem tcol_lin (r : Fin 10240) (e : Fin 16) :
    tcol x0 x4 x5 r ⟨12 + e.val, by omega⟩
      = linCentered (fun i => x0 (ix2 r ⟨3 + i.val, by omega⟩)) (fun i e => x4 (ix2 i e)) (fun e => x5 (ix2 0 e)) e := by
  unfold tcol linCentered
  have h0 : w5 x4 (ix2 0 ⟨12 + e.val, by omega⟩) = 0 := w5_pick_zero x4 0 e
  have h1 : w5 x4 (ix2 1 ⟨12 + e.val, by omega⟩) = 0 := w5_pick_zero x4 1 e
  have h2 : w5 x4 (ix2 2 ⟨12 + e.val, by omega⟩) = 0 := w5_pick_zero x4 2 e
  rw [Fin.sum_univ_five, Fin.sum_univ_two, b28_lin, h0, h1, h2, ← w5_lin x4 0 e, ← w5_lin x4 1 e]
  simp

/-- The variance the kernel takes at a row, in each of the last sixteen columns. -/
theorem variance (r : Fin 10240) (e : Fin 16) :
    ∑ j : Fin 28, tcol x0 x4 x5 r j * tcol x0 x4 x5 r j * k0_pay10 (F := Ideal) (ix2 j ⟨12 + e.val, by omega⟩)
      = ∑ e' : Fin 16, tcol x0 x4 x5 r ⟨12 + e'.val, by omega⟩ * tcol x0 x4 x5 r ⟨12 + e'.val, by omega⟩ * sixteenth := by
  have h := Fin.sum_univ_add (M := EReal) (a := 12) (b := 16)
    fun j => tcol x0 x4 x5 r j * tcol x0 x4 x5 r j * k0_pay10 (F := Ideal) (ix2 j ⟨12 + e.val, by omega⟩)
  refine h.trans ?_
  refine (Ideal.add_congr (Finset.sum_eq_zero fun k _ => (Ideal.mul_congr rfl (avg_zero k _)).trans (mul_zero _))
    (Finset.sum_congr rfl fun e' _ => Ideal.mul_congr rfl (avg_lin e' e))).trans (zero_add _)

/-! ## The block -/

/-- The conversion to ideal floats of a word that holds a natural number. -/
theorem sitofp_nat (w : BitVec 32) (n : Nat) (h : w.toInt = n) : FloatOps.sitofp (F := Ideal) .f32 w = ((n : ℝ) : EReal) := by
  show ((w.toInt : ℝ) : EReal) = _
  rw [h]; simp

set_option maxHeartbeats 4000000 in
/-- The second product as a sum over the twelve one-hot columns and one over the sixteen normalised ones. -/
theorem prod28_apply (r : Fin 10240) (l : Fin 128) :
    prod28 x0 x1 x2 x3 x4 x5 x6 x8 (ix2 r l)
      = ∑ k : Fin 12, (if tcol x0 x4 x5 r ⟨k.val, by omega⟩ = (((k.val % 4 : Nat) : ℝ) : EReal) then 1 else 0) * w28 x1 x2 x3 x8 (ix2 ⟨k.val, by omega⟩ l)
        + ∑ e : Fin 16, scaled (fun e => tcol x0 x4 x5 r ⟨12 + e.val, by omega⟩) e * x6 (ix2 0 e) * w28 x1 x2 x3 x8 (ix2 ⟨12 + e.val, by omega⟩ l) := by
  unfold prod28
  rw [ld_whole x0, ld_whole x6]
  pointwise [k0_pay12, k0_pay11]
  refine Ideal.add_congr (Finset.sum_congr rfl fun k _ => Ideal.mul_congr ?_ rfl) (Finset.sum_congr rfl fun e _ => Ideal.mul_congr ?_ rfl)
  · refine (select_word _ True (by revert k; decide) _ _).trans ?_
    rw [if_pos trivial, select_word _ True (by revert k; decide), if_pos trivial, sitofp_nat (n := k.val % 4)]
    · rfl
    · revert k; decide
  · refine (select_word _ False (by revert e; decide) _ _).trans ?_
    rw [if_neg not_false]
    have h := variance x0 x4 x5 r e
    unfold scaled
    simp only [tcol] at h ⊢
    rw [← h]

/-- The one-hot columns pick, of each table's four rows, the one the row's category names. -/
theorem sum_pick (n : Fin 3 → Fin 4) (t : Fin 12 → EReal) (ht : ∀ k, t k = (((n ⟨k.val / 4, by omega⟩).val : ℝ) : EReal)) (f : Fin 12 → EReal) :
    ∑ k : Fin 12, (if t k = (((k.val % 4 : Nat) : ℝ) : EReal) then 1 else 0) * f k
      = f ⟨(n 0).val, by omega⟩ + f ⟨4 + (n 1).val, by omega⟩ + f ⟨8 + (n 2).val, by omega⟩ := by
  have hk : ∀ k, (if t k = (((k.val % 4 : Nat) : ℝ) : EReal) then (1 : EReal) else 0) * f k
      = if k.val % 4 = (n ⟨k.val / 4, by omega⟩).val then f k else 0 := fun k => by
    have hi : t k = (((k.val % 4 : Nat) : ℝ) : EReal) ↔ k.val % 4 = (n ⟨k.val / 4, by omega⟩).val := by
      rw [ht, EReal.coe_eq_coe_iff, Nat.cast_inj, eq_comm]
    by_cases h : k.val % 4 = (n ⟨k.val / 4, by omega⟩).val
    · rw [if_pos h, if_pos (hi.mpr h), one_mul]
    · rw [if_neg h, if_neg (mt hi.mp h), zero_mul]
  have at_group (g : Fin 3) (v : Fin 4) (k : Fin 12) (h : k.val = 4 * g.val + v.val) :
      (if k.val % 4 = (n ⟨k.val / 4, by omega⟩).val then f k else 0) = if v.val = (n g).val then f k else 0 := by
    rw [show (⟨k.val / 4, by omega⟩ : Fin 3) = g from Fin.ext (by simp only; omega), show k.val % 4 = v.val by omega]
  have one (v : Fin 4) (h : Fin 4 → EReal) : ∑ k : Fin 4, (if k.val = v.val then h k else 0) = h v := by
    rw [Finset.sum_eq_single v (fun k _ hv => if_neg fun e => hv (Fin.ext e)) (fun hv => absurd (Finset.mem_univ v) hv), if_pos rfl]
  simp only [hk]
  have h := Fin.sum_univ_add (M := EReal) (a := 8) (b := 4) fun k => if k.val % 4 = (n ⟨k.val / 4, by omega⟩).val then f k else 0
  refine h.trans (Ideal.add_congr ((Fin.sum_univ_add (M := EReal) (a := 4) (b := 4) _).trans (Ideal.add_congr ?_ ?_)) ?_)
  · exact (Finset.sum_congr rfl fun k _ => at_group 0 k ⟨k.val, by omega⟩ (by simp)).trans (one (n 0) fun v => f ⟨v.val, by omega⟩)
  · exact (Finset.sum_congr rfl fun k _ => at_group 1 k ⟨4 + k.val, by omega⟩ (by simp)).trans (one (n 1) fun v => f ⟨4 + v.val, by omega⟩)
  · exact (Finset.sum_congr rfl fun k _ => at_group 2 k ⟨8 + k.val, by omega⟩ (by simp)).trans (one (n 2) fun v => f ⟨8 + v.val, by omega⟩)

/-- The block of a point at a row and a column, where the row's three category words are `n 0`, `n 1` and `n 2`. -/
theorem stepOut_apply (r : Fin 10240) (l : Fin 128) (n : Fin 3 → Fin 4)
    (hn : ∀ g : Fin 3, x0 (ix2 r ⟨g.val, by omega⟩) = (((n g).val : ℝ) : EReal)) :
    stepOut x0 x1 x2 x3 x4 x5 x6 x7 x8 x9 (ix3 0 r l)
      = (∑ e : Fin 16, x1 (ix2 ⟨(n 0).val, by omega⟩ e) * x8 (ix2 ⟨e.val, by omega⟩ l)
          + ∑ e : Fin 16, x2 (ix2 ⟨(n 1).val, by omega⟩ e) * x8 (ix2 ⟨16 + e.val, by omega⟩ l)
          + ∑ e : Fin 16, x3 (ix2 (n 2) e) * x8 (ix2 ⟨32 + e.val, by omega⟩ l)
          + ∑ e : Fin 16, scaled (linCentered (fun i => x0 (ix2 r ⟨3 + i.val, by omega⟩)) (fun i e => x4 (ix2 i e)) (fun e => x5 (ix2 0 e))) e
              * x6 (ix2 0 e) * x8 (ix2 ⟨48 + e.val, by omega⟩ l))
        + (x9 (ix2 0 l) + ∑ e : Fin 16, x7 (ix2 0 e) * x8 (ix2 ⟨48 + e.val, by omega⟩ l)) := by
  unfold stepOut
  rw [ld_whole x9, ld_whole x7]
  pointwise [k0_pay1]
  refine Ideal.add_congr ?_ (Ideal.add_congr rfl (Finset.sum_congr rfl fun e _ => Ideal.mul_congr rfl (ld_apply 48 _ x8 _ _ _ _ rfl rfl)))
  rw [prod28_apply, sum_pick n (fun k => tcol x0 x4 x5 r ⟨k.val, by omega⟩) (fun k => (tcol_pick x0 x4 x5 r k).trans (hn ⟨k.val / 4, by omega⟩))
    fun k => w28 x1 x2 x3 x8 (ix2 ⟨k.val, by omega⟩ l), w28_first, w28_second, w28_third]
  simp only [w28_last, tcol_lin]

end Cert.KernelIdeal.Hand

end
-- ==== Proof.Reference.lean ====
/- What the reference computes, at ideal floats, read at an index. -/
module

public import proofs.«01_k».proof.Proof.Gen.ReferenceIdeal.Run
public import proofs.«01_k».proof.Proof.Algebra
public import Idealize.ShloMosaic.Lib.ReduceAll

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen
open Cert.KernelIdeal.Hand (lin normed sum_groups)

/-! ## The lookup of a row -/

/-- The dimension numbers of a lookup of whole rows of a table of `N` rows, by one row number at each place. -/
abbrev rowDims (N : Nat) (wf : GatherDims.WF ⟨2, ![N, 16]⟩ ⟨3, ![1024, 200, 1]⟩ ⟨3, ![1024, 200, 16]⟩ [2] [0] [] [0] [] 2 ![1, 16]) :
    GatherDims ⟨2, ![N, 16]⟩ ⟨3, ![1024, 200, 1]⟩ ⟨3, ![1024, 200, 16]⟩ where
  offsetDims := [2]
  collapsedSliceDims := [0]
  operandBatchingDims := []
  startIndicesBatchingDims := []
  startIndexMap := [0]
  indexVectorDim := 2
  sliceSizes := ![1, 16]
  wf := wf

/-- A lookup whose row number at a place is `v`, inside the table, reads row `v`. -/
theorem gather_row {α : Type} {N : Nat} (wf : GatherDims.WF ⟨2, ![N, 16]⟩ ⟨3, ![1024, 200, 1]⟩ ⟨3, ![1024, 200, 16]⟩ [2] [0] [] [0] [] 2 ![1, 16])
    (x : (⟨2, ![N, 16]⟩ : Shape).Idx → α) (idx : IVec ⟨3, ![1024, 200, 1]⟩ 32) (b : Fin 1024) (s : Fin 200) (e : Fin 16) (v : Fin N)
    (hv : (idx (ix3 b s 0)).toInt.toNat = v.val) : Host.gather (rowDims N wf) x idx (ix3 b s e) = x (ix2 v e) := by
  unfold Host.gather
  congr 1
  funext a
  refine Fin.ext ?_
  show (rowDims N wf).start (ix3 b s e) idx a + (rowDims N wf).batchCoord (ix3 b s e) a + (rowDims N wf).offCoord (ix3 b s e) a = _
  rw [GatherDims.batchCoord_eq_zero _ _ _ List.not_mem_nil]
  match a with
  | ⟨0, _⟩ =>
    show (rowDims N wf).start (ix3 b s e) idx 0 + 0 + (rowDims N wf).offCoord (ix3 b s e) 0 = v.val
    rw [GatherDims.offCoord_eq_zero _ _ _ (fun h => ((GatherDims.mem_sKept _ _).mp h).1 (List.mem_singleton.mpr rfl))]
    unfold GatherDims.start
    rw [dif_pos (show (0 : Fin 2) ∈ (rowDims N wf).startIndexMap from List.mem_singleton.mpr rfl)]
    have place : (rowDims N wf).siIdx (ix3 b s e) ⟨List.idxOf (0 : Fin 2) (rowDims N wf).startIndexMap,
        List.idxOf_lt_length_iff.2 (List.mem_singleton.mpr rfl)⟩ = ix3 b s 0 := by
      funext k
      refine Fin.ext ?_
      match k with
      | ⟨0, _⟩ => rfl
      | ⟨1, _⟩ => rfl
      | ⟨2, _⟩ => rfl
    rw [place, hv]
    show min v.val (N - 1) + 0 + 0 = v.val
    have := v.isLt
    omega
  | ⟨1, _⟩ =>
    show (rowDims N wf).start (ix3 b s e) idx 1 + 0 + (rowDims N wf).offCoord (ix3 b s e) 1 = e.val
    unfold GatherDims.start
    rw [dif_neg (show (1 : Fin 2) ∉ (rowDims N wf).startIndexMap from fun h => Nat.one_ne_zero (congrArg Fin.val (List.mem_singleton.mp h)))]
    simp only [Nat.zero_add]
    rfl

variable (m : (ℓ : Loc nD τ sig) → Buf (Elt Ideal) ℓ) (c : Dev nD)

/-- A row number as the reference wraps it: a negative one counts from the end of a table of `N` rows. -/
abbrev wrapped (w N : BitVec 32) : BitVec 32 :=
  Scalar.select (IntOp.cmpi .slt w 0#32) (IntOp.addi w N) w

/-- A category word in range is not wrapped. -/
theorem wrapped_word (n : Fin 4) (N : BitVec 32) : wrapped (BitVec.ofNat 32 n.val) N = BitVec.ofNat 32 n.val := by
  have h : IntOp.cmpi .slt (BitVec.ofNat 32 n.val) 0#32 = 0#1 := by revert n; decide
  rw [wrapped, h]
  rfl

/-- The reference's guarded lookup, which gives the filler `nan` at a row number outside the table, reads row `n` where the
    word is a category `n` in range. -/
theorem lookup_word {N : Nat} (wf : GatherDims.WF ⟨2, ![N, 16]⟩ ⟨3, ![1024, 200, 1]⟩ ⟨3, ![1024, 200, 16]⟩ [2] [0] [] [0] [] 2 ![1, 16])
    (x : FVec Ideal ⟨2, ![N, 16]⟩ .f32) (idx : IVec ⟨3, ![1024, 200, 1]⟩ 32) (b : Fin 1024) (s : Fin 200) (e : Fin 16) (w size last : BitVec 32)
    (nan : EReal) (n : Fin 4) (hw : w = BitVec.ofNat 32 n.val) (v : Fin N) (hv : v.val = n.val) (hidx : idx (ix3 b s 0) = wrapped w size)
    (hlast : IntOp.cmpi .sle (BitVec.ofNat 32 n.val) last = 1#1) :
    Scalar.select (Finset.fold IntOp.andi 1#1 (fun _ : Fin 1 =>
        IntOp.andi (IntOp.cmpi .sge (wrapped w size) 0#32) (IntOp.cmpi .sle (wrapped w size) last)) Finset.univ)
      (Host.gather (rowDims N wf) x idx (ix3 b s e)) nan = x (ix2 v e) := by
  subst hw
  rw [wrapped_word] at hidx
  have hrow : (idx (ix3 b s 0)).toInt.toNat = v.val := by
    rw [hidx, hv]
    clear hlast hidx hv
    revert n
    decide
  have hfirst : IntOp.cmpi .sge (BitVec.ofNat 32 n.val) 0#32 = 1#1 := by
    clear hlast hidx hrow hv
    revert n
    decide
  rw [gather_row wf x idx b s e v hrow, wrapped_word, hfirst, hlast]
  rfl

/-! ## The float arguments, by what they are -/

/-- The two continuous inputs at each place. -/
abbrev cont : FVec Ideal S1024x200x2 .f32 := m ((c.tc : Thread nD τ).loc main_arg1)
/-- The first table, looked up by the first category. -/
abbrev query : FVec Ideal S100001x16 .f32 := m ((c.tc : Thread nD τ).loc main_arg2)
/-- The second table, looked up by the second category. -/
abbrev part : FVec Ideal S9x16 .f32 := m ((c.tc : Thread nD τ).loc main_arg3)
/-- The third table, looked up by the third category. -/
abbrev answer : FVec Ideal S4x16 .f32 := m ((c.tc : Thread nD τ).loc main_arg4)
/-- The weights of the continuous map. -/
abbrev contW : FVec Ideal S2x16 .f32 := m ((c.tc : Thread nD τ).loc main_arg5)
/-- The bias of the continuous map. -/
abbrev contB : FVec Ideal S16 .f32 := m ((c.tc : Thread nD τ).loc main_arg6)
/-- The scale of the normalised row. -/
abbrev gain : FVec Ideal S16 .f32 := m ((c.tc : Thread nD τ).loc main_arg7)
/-- The shift of the normalised row. -/
abbrev shift : FVec Ideal S16 .f32 := m ((c.tc : Thread nD τ).loc main_arg8)
/-- The merge weights, sixteen rows for each of the four parts. -/
abbrev merge : FVec Ideal S64x128 .f32 := m ((c.tc : Thread nD τ).loc main_arg9)
/-- The merge bias. -/
abbrev mergeB : FVec Ideal S128 .f32 := m ((c.tc : Thread nD τ).loc main_arg10)

set_option maxHeartbeats 4000000 in
/-- The reference's result at an index, where the three category words there are `n 0`, `n 1` and `n 2`: the three looked-up
    rows and the normalised continuous row, each times its sixteen rows of the merge weights, and the merge bias. -/
theorem value_apply (b : Fin 1024) (s : Fin 200) (l : Fin 128) (n : Fin 3 → Fin 4)
    (hn : ∀ g : Fin 3, (m ((c.tc : Thread nD τ).loc main_arg0) : IVec S1024x200x3 32) (ix3 b s g) = BitVec.ofNat 32 (n g).val) :
    (Cert.ReferenceIdeal.Value.res_main_v41 m c : FVec Ideal S1024x200x128 .f32) (ix3 b s l)
      = ∑ e : Fin 16, query m c (ix2 ⟨(n 0).val, by omega⟩ e)
            * merge m c (ix2 ⟨e.val, by omega⟩ l)
          + ∑ e : Fin 16, part m c (ix2 ⟨(n 1).val, by omega⟩ e)
            * merge m c (ix2 ⟨16 + e.val, by omega⟩ l)
          + ∑ e : Fin 16, answer m c (ix2 (n 2) e)
            * merge m c (ix2 ⟨32 + e.val, by omega⟩ l)
          + ∑ e : Fin 16, (normed (lin (fun i : Fin 2 => cont m c (ix3 b s i))
                (fun i e => contW m c (ix2 i e))
                (fun e => contB m c (ix1 e))) e
              * gain m c (ix1 e)
              + shift m c (ix1 e))
            * merge m c (ix2 ⟨48 + e.val, by omega⟩ l)
          + mergeB m c (ix1 l) := by
  have h0 := hn 0
  have h1 := hn 1
  have h2 := hn 2
  pointwise [Cert.ReferenceIdeal.Value.res_main_v41]
  rw [sum_groups]
  refine congrArg₂ (· + ·) (congrArg₂ (· + ·) (congrArg₂ (· + ·) (congrArg₂ (· + ·) ?_ ?_) ?_) ?_) ?_
  · refine Finset.sum_congr rfl fun e _ => ?_
    refine congrArg (· * _) ?_
    rw [dif_pos (show e.val < 16 from e.isLt)]
    exact lookup_word gather_S100001x16_S1024x200x1_S1024x200x16_2_0_n_n_0_2_116_wf (query m c) _ b s e _ 100001#32 100000#32 _ (n 0) h0
      ⟨(n 0).val, by omega⟩ rfl (by pointwise) (by generalize n 0 = k; revert k; decide)
  · refine Finset.sum_congr rfl fun e _ => ?_
    refine congrArg (· * _) ?_
    rw [dif_neg (show ¬ (16 + e.val) < 16 by omega), dif_pos (show 16 + e.val - 16 < 16 by omega)]
    have he : (⟨16 + e.val - 16, by omega⟩ : Fin 16) = e := Fin.ext (by show 16 + e.val - 16 = e.val; omega)
    rw [he]
    exact lookup_word gather_S9x16_S1024x200x1_S1024x200x16_2_0_n_n_0_2_116_wf (part m c) _ b s e _ 9#32 8#32 _ (n 1) h1
      ⟨(n 1).val, by omega⟩ rfl (by pointwise) (by generalize n 1 = k; revert k; decide)
  · refine Finset.sum_congr rfl fun e _ => ?_
    refine congrArg (· * _) ?_
    rw [dif_neg (show ¬ (32 + e.val) < 16 by omega), dif_neg (show ¬ 32 + e.val - 16 < 16 by omega), dif_pos (show 32 + e.val - 16 - 16 < 16 by omega)]
    have he : (⟨32 + e.val - 16 - 16, by omega⟩ : Fin 16) = e := Fin.ext (by show 32 + e.val - 16 - 16 = e.val; omega)
    rw [he]
    exact lookup_word gather_S4x16_S1024x200x1_S1024x200x16_2_0_n_n_0_2_116_wf (answer m c) _ b s e _ 4#32 3#32 _ (n 2) h2
      (n 2) rfl (by pointwise) (by generalize n 2 = k; revert k; decide)
  · refine Finset.sum_congr rfl fun e _ => ?_
    refine congrArg (· * _) ?_
    rw [dif_neg (show ¬ (48 + e.val) < 16 by omega), dif_neg (show ¬ 48 + e.val - 16 < 16 by omega), dif_neg (show ¬ 48 + e.val - 16 - 16 < 16 by omega)]
    have he : (⟨48 + e.val - 16 - 16 - 16, by omega⟩ : Fin 16) = e := Fin.ext (by show 48 + e.val - 16 - 16 - 16 = e.val; omega)
    rw [he]
    rfl
  · rfl

end Cert.ReferenceIdeal.Hand

end
-- ==== Proof.Value.lean ====
/- The kernel's result at an index, and that it is the reference's. -/
module

public import proofs.«01_k».proof.Proof.Blocks
public import proofs.«01_k».proof.Proof.Point
public import proofs.«01_k».proof.Proof.Reference
public import Idealize.ShloMosaic.Lib.ValueLayout

@[expose] public section

set_option maxRecDepth 16384

noncomputable section

namespace Cert.KernelIdeal.Hand

open Idealize.ShloMosaic Idealize.ShloMosaic.TcCoe Idealize.ShloMosaic.Tactic

open Cert.KernelIdeal.Gen

/-- One entry of the result: the three looked-up rows `q`, `p`, `a` and the normalised, scaled and shifted continuous row, each
    times its sixteen of the merge weights `w`, and the merge bias. -/
def merged (q p a : Fin 16 → EReal) (x : Fin 2 → EReal) (W : Fin 2 → Fin 16 → EReal) (B gain shift : Fin 16 → EReal) (w : Fin 64 → EReal)
    (bias : EReal) : EReal :=
  ∑ e : Fin 16, q e * w ⟨e.val, by omega⟩ + ∑ e : Fin 16, p e * w ⟨16 + e.val, by omega⟩ + ∑ e : Fin 16, a e * w ⟨32 + e.val, by omega⟩
    + ∑ e : Fin 16, (normed (lin x W B) e * gain e + shift e) * w ⟨48 + e.val, by omega⟩ + bias

section
variable (x0 : FVec Ideal S10240x5 .f32) (x1 x2 : FVec Ideal S8x16 .f32) (x3 : FVec Ideal S4x16 .f32) (x4 : FVec Ideal S2x16 .f32)
  (x5 x6 x7 : FVec Ideal S1x16 .f32) (x8 : FVec Ideal S64x128 .f32) (x9 : FVec Ideal S1x128 .f32)

/-- What a grid point computes for row `r` and lane `l` is that entry of its windows' blocks, where the row's three categories
    are `n 0`, `n 1` and `n 2` and its continuous inputs, the shift and the weights that the shift meets are reals. -/
theorem stepOut_merged (r : Fin 10240) (l : Fin 128) (n : Fin 3 → Fin 4)
    (hn : ∀ g : Fin 3, x0 (ix2 r ⟨g.val, by omega⟩) = (((n g).val : ℝ) : EReal))
    (hx : ∀ i : Fin 2, ∃ v : ℝ, x0 (ix2 r ⟨3 + i.val, by omega⟩) = v) (hs : ∀ e : Fin 16, ∃ v : ℝ, x7 (ix2 0 e) = v)
    (hw : ∀ e : Fin 16, ∃ v : ℝ, x8 (ix2 ⟨48 + e.val, by omega⟩ l) = v) :
    stepOut (F := Ideal) x0 x1 x2 x3 x4 x5 x6 x7 x8 x9 (ix3 0 r l)
      = merged (fun e => x1 (ix2 ⟨(n 0).val, by omega⟩ e)) (fun e => x2 (ix2 ⟨(n 1).val, by omega⟩ e)) (fun e => x3 (ix2 (n 2) e))
          (fun i => x0 (ix2 r ⟨3 + i.val, by omega⟩)) (fun i e => x4 (ix2 i e)) (fun e => x5 (ix2 0 e)) (fun e => x6 (ix2 0 e))
          (fun e => x7 (ix2 0 e)) (fun k => x8 (ix2 k l)) (x9 (ix2 0 l)) := by
  rw [stepOut_apply x0 x1 x2 x3 x4 x5 x6 x7 x8 x9 r l n hn, merged, sum_bias _ _ _ hs hw]
  simp only [scaled_eq _ _ _ hx]
  have regroup (a b : EReal) (d e : EReal) : a + b + (d + e) = a + (b + e) + d := by ac_rfl
  exact regroup _ _ _ _
end

/-- Equal parts make equal entries. -/
theorem merged_congr {q q' p p' a a' : Fin 16 → EReal} {x x' : Fin 2 → EReal} {W W' : Fin 2 → Fin 16 → EReal} {B B' g g' s s' : Fin 16 → EReal}
    {w w' : Fin 64 → EReal} {b b' : EReal} (hq : ∀ e, q e = q' e) (hp : ∀ e, p e = p' e) (ha : ∀ e, a e = a' e) (hx : ∀ i, x i = x' i)
    (hW : ∀ i e, W i e = W' i e) (hB : ∀ e, B e = B' e) (hg : ∀ e, g e = g' e) (hs : ∀ e, s e = s' e) (hw : ∀ k, w k = w' k) (hb : b = b') :
    merged q p a x W B g s w b = merged q' p' a' x' W' B' g' s' w' b' := by
  obtain rfl := funext hq
  obtain rfl := funext hp
  obtain rfl := funext ha
  obtain rfl := funext hx
  obtain rfl := funext fun i => funext (hW i)
  obtain rfl := funext hB
  obtain rfl := funext hg
  obtain rfl := funext hs
  obtain rfl := funext hw
  rw [hb]

variable (m : (ℓ : Loc nD τ sig) → Buf (Elt Ideal) ℓ) (c : Dev nD)

/-! The float arguments, by what they are. -/

/-- The two continuous inputs at each place. -/
abbrev cont : FVec Ideal S1024x200x2 .f32 := m ((c : Thread nD τ).loc main_arg1)
/-- The first table, looked up by the first category. -/
abbrev query : FVec Ideal S100001x16 .f32 := m ((c : Thread nD τ).loc main_arg2)
/-- The second table, looked up by the second category. -/
abbrev part : FVec Ideal S9x16 .f32 := m ((c : Thread nD τ).loc main_arg3)
/-- The third table, looked up by the third category. -/
abbrev answer : FVec Ideal S4x16 .f32 := m ((c : Thread nD τ).loc main_arg4)
/-- The weights of the continuous map. -/
abbrev contW : FVec Ideal S2x16 .f32 := m ((c : Thread nD τ).loc main_arg5)
/-- The bias of the continuous map. -/
abbrev contB : FVec Ideal S16 .f32 := m ((c : Thread nD τ).loc main_arg6)
/-- The scale of the normalised row. -/
abbrev gain : FVec Ideal S16 .f32 := m ((c : Thread nD τ).loc main_arg7)
/-- The shift of the normalised row. -/
abbrev shift : FVec Ideal S16 .f32 := m ((c : Thread nD τ).loc main_arg8)
/-- The merge weights, sixteen rows for each of the four parts. -/
abbrev merge : FVec Ideal S64x128 .f32 := m ((c : Thread nD τ).loc main_arg9)
/-- The merge bias. -/
abbrev mergeB : FVec Ideal S128 .f32 := m ((c : Thread nD τ).loc main_arg10)

/-- A category word read as a real is its number. -/
theorem sitofp_category (n : Fin 4) : FloatOps.sitofp (F := Ideal) .f32 (BitVec.ofNat 32 n.val) = ((n.val : ℝ) : EReal) :=
  sitofp_nat _ _ (by revert n; decide)

/-- The kernel's result at an index, as that entry of the argument arrays. -/
theorem kernel_apply (b : Fin 1024) (s : Fin 200) (l : Fin 128) (n : Fin 3 → Fin 4)
    (hn : ∀ g : Fin 3, (m ((c : Thread nD τ).loc main_arg0) : IVec S1024x200x3 32) (ix3 b s g) = BitVec.ofNat 32 (n g).val)
    (hx : ∀ i : Fin 2, ∃ v : ℝ, cont m c (ix3 b s i) = v)
    (hs : ∀ e : Fin 16, ∃ v : ℝ, shift m c (ix1 e) = v)
    (hw : ∀ e : Fin 16, ∃ v : ℝ, merge m c (ix2 ⟨48 + e.val, by omega⟩ l) = v) :
    shapeCast S1024x200x128 (outG m c) shapeCasts_S204800x128_S1024x200x128 (ix3 b s l)
      = merged (fun e => query m c (ix2 ⟨(n 0).val, by omega⟩ e))
          (fun e => part m c (ix2 ⟨(n 1).val, by omega⟩ e))
          (fun e => answer m c (ix2 (n 2) e))
          (fun i => cont m c (ix3 b s i))
          (fun i e => contW m c (ix2 i e))
          (fun e => contB m c (ix1 e))
          (fun e => gain m c (ix1 e))
          (fun e => shift m c (ix1 e))
          (fun k => merge m c (ix2 k l))
          (mergeB m c (ix1 l)) := by
  have hR : 200 * b.val + s.val < 204800 := by omega
  obtain ⟨R, hRv⟩ : ∃ R : Fin 204800, R.val = 200 * b.val + s.val := ⟨⟨_, hR⟩, rfl⟩
  obtain ⟨t, ht⟩ : ∃ t, t = pointOf (ix2 R l) := ⟨_, rfl⟩
  obtain ⟨r, hr⟩ : ∃ r : Fin 10240, r = ⟨R.val % 10240, Nat.mod_lt _ (by decide)⟩ := ⟨_, rfl⟩
  have hrow : R.val = 10240 * t.val + r.val := by
    have htv : t.val = R.val / 10240 := by rw [ht]; rfl
    have hrv : r.val = R.val % 10240 := by rw [hr]
    omega
  have hplace : placeOf (ix2 R l) = ix2 r l := by
    rw [hr]
    funext a
    match a with
    | ⟨0, _⟩ => rfl
    | ⟨1, _⟩ => rfl
  have hentry : outG m c (ix2 R l) = blockAt m c t (ix3 0 r l) := by
    show flat (blockAt m c (pointOf (ix2 R l))) (placeOf (ix2 R l)) = _
    rw [← ht, hplace]
    exact ValueIdx.shapeCast_1ab_ab_apply (blockAt m c t) (by decide) r l
  refine (unflatten_apply b s R hRv (outG m c) _ l).trans (hentry.trans ?_)
  have hcont (i : Fin 2) := (block_0 m c t r ⟨3 + i.val, by omega⟩ R hrow).trans (rowsIn_cont m c b s R hRv i)
  have hcat (g : Fin 3) : (iblk m c 0 t : FVec Ideal S10240x5 .f32) (ix2 r ⟨g.val, by omega⟩) = (((n g).val : ℝ) : EReal) :=
    (block_0 m c t r ⟨g.val, by omega⟩ R hrow).trans ((rowsIn_cat m c b s R hRv g).trans (by rw [hn g]; exact sitofp_category (n g)))
  refine (stepOut_merged (iblk m c 0 t) (X0_1 m c t) (X0_2 m c t) (iblk m c 3 t) (iblk m c 4 t) (iblk m c 5 t) (iblk m c 6 t) (iblk m c 7 t)
    (iblk m c 8 t) (iblk m c 9 t) r l n hcat (fun i => by rw [hcont i]; exact hx i) (fun e => by rw [block_7]; exact hs e)
    (fun e => by rw [block_8]; exact hw e)).trans ?_
  exact merged_congr (fun e => block_1 m c t _ e) (fun e => block_2 m c t _ e) (fun e => block_3 m c t _ e) hcont (fun i e => block_4 m c t i e)
    (fun e => block_5 m c t e) (fun e => block_6 m c t e) (fun e => block_7 m c t e) (fun k => block_8 m c t k l) (block_9 m c t l)

/-- Where the arguments agree and the precondition holds, the kernel's result is the reference's. -/
theorem result_eq (m' : (ℓ : Loc Cert.ReferenceIdeal.nD Cert.ReferenceIdeal.τ Cert.ReferenceIdeal.sig) → Buf (Elt Ideal) ℓ)
    (h0 : (m' ((c.tc : Thread Cert.ReferenceIdeal.nD Cert.ReferenceIdeal.τ).loc Cert.ReferenceIdeal.main_arg0) : IVec S1024x200x3 32)
      = m ((c : Thread nD τ).loc main_arg0))
    (h1 : Cert.ReferenceIdeal.Hand.cont m' c = cont m c) (h2 : Cert.ReferenceIdeal.Hand.query m' c = query m c)
    (h3 : Cert.ReferenceIdeal.Hand.part m' c = part m c) (h4 : Cert.ReferenceIdeal.Hand.answer m' c = answer m c)
    (h5 : Cert.ReferenceIdeal.Hand.contW m' c = contW m c) (h6 : Cert.ReferenceIdeal.Hand.contB m' c = contB m c)
    (h7 : Cert.ReferenceIdeal.Hand.gain m' c = gain m c) (h8 : Cert.ReferenceIdeal.Hand.shift m' c = shift m c)
    (h9 : Cert.ReferenceIdeal.Hand.merge m' c = merge m c) (h10 : Cert.ReferenceIdeal.Hand.mergeB m' c = mergeB m c)
    (hcat : ∀ (b : Fin 1024) (s : Fin 200) (g : Fin 3), ∃ n : Fin 4,
      (m ((c : Thread nD τ).loc main_arg0) : IVec S1024x200x3 32) (ix3 b s g) = BitVec.ofNat 32 n.val)
    (hcont : ∀ (b : Fin 1024) (s : Fin 200) (i : Fin 2), ∃ v : ℝ, cont m c (ix3 b s i) = v) (hshift : ∀ e : Fin 16, ∃ v : ℝ, shift m c (ix1 e) = v)
    (hmerge : ∀ (e : Fin 16) (l : Fin 128), ∃ v : ℝ, merge m c (ix2 ⟨48 + e.val, by omega⟩ l) = v) :
    shapeCast S1024x200x128 (outG m c) shapeCasts_S204800x128_S1024x200x128
      = (Cert.ReferenceIdeal.Value.res_main_v41 m' c : FVec Ideal S1024x200x128 .f32) := by
  funext j
  obtain ⟨b, s, l, rfl⟩ : ∃ (b : Fin 1024) (s : Fin 200) (l : Fin 128), j = ix3 b s l := ⟨_, _, _, ValueIdx.eq_ix3 j⟩
  choose n hn using hcat b s
  refine (kernel_apply m c b s l n hn (hcont b s) hshift (fun e => hmerge e l)).trans ?_
  refine Eq.trans ?_ (Cert.ReferenceIdeal.Hand.value_apply m' c b s l n (fun g => by rw [h0]; exact hn g)).symm
  rw [h1, h2, h3, h4, h5, h6, h7, h8, h9, h10]
  rfl

end Cert.KernelIdeal.Hand

end
-- ==== Proof.Domain.lean ====
/- The precondition, read: what it says of the argument arrays, entry by entry. -/
module

public import proofs.«01_k».proof.Pre_inputs_in_range
public import proofs.«01_k».proof.Proof.Algebra
public import Idealize.ShloMosaic.Lib.Pointwise
public import Idealize.ShloMosaic.Lib.ReduceAll

@[expose] public section

set_option maxRecDepth 16384

noncomputable section

namespace Cert.Pre_inputs_in_range.Hand

open Idealize.ShloMosaic Idealize.ShloMosaic.TcCoe Idealize.ShloMosaic.Tactic
open Cert.Pre_inputs_in_range
open Cert.KernelIdeal.Hand (real_or_inf)

/-- The shape relations the precondition's operations take hold. -/
theorem facts : Cert.Pre_inputs_in_range.Facts :=
  ⟨by decide, by decide, by decide, by decide, by decide, by decide, by decide, by decide, by decide, by decide⟩

/-- A word at least 0 and less than 4, as signed numbers, is one of the four categories. -/
theorem category_of_range (a : BitVec 32) (h0 : IntOp.cmpi .sge a 0#32 = 1#1) (h4 : IntOp.cmpi .slt a 4#32 = 1#1) :
    ∃ n : Fin 4, a = BitVec.ofNat 32 n.val := by
  have hr : 0 ≤ a.toInt ∧ a.toInt < 4 := by
    simp only [IntOp.cmpi, BitVec.sle_eq_decide, BitVec.slt_eq_decide] at h0 h4
    constructor
    · by_contra h
      rw [decide_eq_false (by simpa using h)] at h0
      exact absurd h0 (by decide)
    · by_contra h
      rw [decide_eq_false (by simpa using h)] at h4
      exact absurd h4 (by decide)
  have ht : a.toNat < 4 := by
    have := BitVec.toInt_eq_toNat_cond a
    have := a.isLt
    omega
  exact ⟨⟨a.toNat, ht⟩, by rw [BitVec.ofNat_toNat, BitVec.setWidth_eq]⟩

/-- A value whose magnitude is less than the positive infinity is a real. -/
theorem real_of_abs_lt (x : EReal) (h : Ideal.cmp .olt (max x (-x)) (Ideal.ofBits .f32 0x7F800000#32) = 1#1) : ∃ r : ℝ, x = r := by
  refine (real_or_inf x).resolve_right fun hi => ?_
  have ht : max x (-x) = ⊤ := by rcases hi with rfl | rfl <;> simp
  have hinf : Ideal.ofBits .f32 0x7F800000#32 = ⊤ := by simp [Ideal.ofBits, Ideal.ieee]
  rw [ht, hinf] at h
  simp [Ideal.cmp] at h

variable [Facts]

set_option maxHeartbeats 1000000 in
/-- What the precondition says: every category is one of four, and the continuous inputs, the shift and the last sixteen rows
    of the merge weights are reals. -/
theorem read (cat : IVec S1024x200x3 32) (cont : FVec Ideal S1024x200x2 .f32) (q : FVec Ideal S100001x16 .f32) (p : FVec Ideal S9x16 .f32)
    (a : FVec Ideal S4x16 .f32) (W : FVec Ideal S2x16 .f32) (B g shift : FVec Ideal S16 .f32) (merge : FVec Ideal S64x128 .f32)
    (mb : FVec Ideal S128 .f32) (h : Cert.Pre_inputs_in_range.fn (F := Ideal) cat cont q p a W B g shift merge mb = fun _ => 1#1) :
    (∀ b s k, ∃ n : Fin 4, cat (ix3 b s k) = BitVec.ofNat 32 n.val) ∧ (∀ b s i, ∃ r : ℝ, cont (ix3 b s i) = r)
      ∧ (∀ e, ∃ r : ℝ, shift (ix1 e) = r) ∧ ∀ (e : Fin 16) l, ∃ r : ℝ, merge (ix2 ⟨48 + e.val, by omega⟩ l) = r := by
  have h := congrFun h (fun k => k.elim0)
  obtain ⟨h, hm⟩ := IntOp.andi_eq_one.1 h
  obtain ⟨h, hs⟩ := IntOp.andi_eq_one.1 h
  obtain ⟨hc, hx⟩ := IntOp.andi_eq_one.1 h
  haveI : Subsingleton S_.Idx := ⟨fun a b => funext fun k => k.elim0⟩
  refine ⟨fun b s k => ?_, fun b s i => ?_, fun e => ?_, fun e l => ?_⟩
  · have := Host.reduce_andi_all _ _ _ _ _ hc (ix3 b s k)
    obtain ⟨h0, h4⟩ := IntOp.andi_eq_one.1 this
    exact category_of_range _ h0 h4
  · exact real_of_abs_lt _ (Host.reduce_andi_all _ _ _ _ _ hx (ix3 b s i))
  · exact real_of_abs_lt _ (Host.reduce_andi_all _ _ _ _ _ hs (ix1 e))
  · have row : extractStridedSlice S16x128 ![48, 0] merge Facts.slices_S64x128_S16x128_48_0 (ix2 e l) = merge (ix2 ⟨48 + e.val, by omega⟩ l) := by pointwise
    rw [← row]
    exact real_of_abs_lt _ (Host.reduce_andi_all _ _ _ _ _ hm (ix2 e l))

end Cert.Pre_inputs_in_range.Hand

end
-- ==== Proof.lean ====
/- The proof of the claims of Defs.lean, put together from the modules beside it.
   The kernel's run is proved in Launch.lean (ideal floats) and carried over to bits in KernelFrame.lean.
   The reference's run is the generated one. That the two results are equal is proved in Value.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.KernelFrame
public import proofs.«01_k».proof.Proof.Value
public import proofs.«01_k».proof.Proof.Domain

@[expose] public section

noncomputable section

namespace Cert.Proof

open Idealize.ShloMosaic Idealize.SL.Sem

/-- The reference ends with its arguments as they were and every semaphore counter at zero: it declares no semaphore. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the precondition the kernel and the reference, at ideal floats and from equal arguments, end with equal results and
    with their arguments as they were. -/
theorem equal_results : Cert.algebraic_KernelIdeal_ReferenceIdeal_pre_inputs_in_range (hPre_inputs_in_range := Cert.Pre_inputs_in_range.Hand.facts) :=
  fun m g m' g' pre agree =>
    ⟨fun c => Cert.ReferenceIdeal.Value.res_main_v41 (F := Ideal) m' c,
      (θ_run Cert.KernelIdeal.defs _ _).mono
        (fun r h c => by
          obtain ⟨h0, h1, h2, h3, h4, h5, h6, h7, h8, h9, h10⟩ := agree c
          obtain ⟨hcat, hcont, hshift, hmerge⟩ :=
            @Cert.Pre_inputs_in_range.Hand.read Cert.Pre_inputs_in_range.Hand.facts _ _ _ _ _ _ _ _ _ _ _ (pre c)
          exact ⟨(h c).1.trans (Cert.KernelIdeal.Hand.result_eq m c m' h0 h1 h2 h3 h4 h5 h6 h7 h8 h9 h10 hcat hcont hshift hmerge), (h c).2⟩)
        (Cert.KernelIdeal.Hand.run_value (F := Ideal) m g),
      Cert.ReferenceIdeal.Value.run (F := Ideal) m' g'⟩

/-- The claims of Defs.lean. -/
theorem claim : Cert.Claim :=
  ⟨Cert.Kernel.Gen.facts, Cert.KernelIdeal.Gen.facts, Cert.ReferenceIdeal.Gen.facts, Cert.Pre_inputs_in_range.Hand.facts,
    fun m ρ _ => Cert.Kernel.Hand.frame m ρ,
    fun m ρ _ => Cert.KernelIdeal.Hand.frame m ρ,
    fun m ρ _ => Cert.KernelIdeal.Hand.frame m ρ,
    reference_frame,
    fun m ρ _ => reference_frame m ρ trivial,
    trivial,
    equal_results⟩

end Cert.Proof

end
